-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite_b [hPre_finite_b : Cert.Pre_finite_b.Facts] (m : (ℓ : Loc Cert.GqaIdeal.nD Cert.GqaIdeal.τ Cert.GqaIdeal.sig) → Buf (Elt Ideal) ℓ) : Prop :=
  ∀ c : Dev Cert.GqaIdeal.nD,
    (Cert.Pre_finite_b.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_b [hPre_finite_b : Cert.Pre_finite_b.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_b.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))) = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_finite_b [hGqaIdeal : Cert.GqaIdeal.Facts] [hPre_finite_b : Cert.Pre_finite_b.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite_b m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_finite_b [hGqaRefIdeal : Cert.GqaRefIdeal.Facts] [hPre_finite_b : Cert.Pre_finite_b.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_b m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11))
      ∧ r.2.sem = fun _ => 0)

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v130_0)) (v1 : (c : Dev Cert.ProjIdeal.nD) → Buf (Elt Ideal) ((c.tc : Thread Cert.ProjIdeal.nD Cert.ProjIdeal.τ).loc Cert.ProjIdeal.main_v130_1)) (v2 : (c : Dev Cert.ProjIdeal.nD) → Buf (Elt Ideal) ((c.tc : Thread Cert.ProjIdeal.nD Cert.ProjIdeal.τ).loc Cert.ProjIdeal.main_v130_2)) (v3 : (c : Dev Cert.ProjIdeal.nD) → Buf (Elt Ideal) ((c.tc : Thread Cert.ProjIdeal.nD Cert.ProjIdeal.τ).loc Cert.ProjIdeal.main_v130_3)) (v4 : (c : Dev Cert.ProjIdeal.nD) → Buf (Elt Ideal) ((c.tc : Thread Cert.ProjIdeal.nD Cert.ProjIdeal.τ).loc Cert.ProjIdeal.main_v130_4)) (v5 : (c : Dev Cert.ProjIdeal.nD) → Buf (Elt Ideal) ((c.tc : Thread Cert.ProjIdeal.nD Cert.ProjIdeal.τ).loc Cert.ProjIdeal.main_v130_5)) (v6 : (c : Dev Cert.ProjIdeal.nD) → Buf (Elt Ideal) ((c.tc : Thread Cert.ProjIdeal.nD Cert.ProjIdeal.τ).loc Cert.ProjIdeal.main_v130_6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v130_0) = v0 c
          ∧ r.2.mem ((c.tc : Thread Cert.ProjIdeal.nD Cert.ProjIdeal.τ).loc Cert.ProjIdeal.main_v130_1) = v1 c
          ∧ r.2.mem ((c.tc : Thread Cert.ProjIdeal.nD Cert.ProjIdeal.τ).loc Cert.ProjIdeal.main_v130_2) = v2 c
          ∧ r.2.mem ((c.tc : Thread Cert.ProjIdeal.nD Cert.ProjIdeal.τ).loc Cert.ProjIdeal.main_v130_3) = v3 c
          ∧ r.2.mem ((c.tc : Thread Cert.ProjIdeal.nD Cert.ProjIdeal.τ).loc Cert.ProjIdeal.main_v130_4) = v4 c
          ∧ r.2.mem ((c.tc : Thread Cert.ProjIdeal.nD Cert.ProjIdeal.τ).loc Cert.ProjIdeal.main_v130_5) = v5 c
          ∧ r.2.mem ((c.tc : Thread Cert.ProjIdeal.nD Cert.ProjIdeal.τ).loc Cert.ProjIdeal.main_v130_6) = v6 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v253) = v0 c
          ∧ r.2.mem ((c.tc : Thread Cert.ProjRefIdeal.nD Cert.ProjRefIdeal.τ).loc Cert.ProjRefIdeal.main_v257) = v1 c
          ∧ r.2.mem ((c.tc : Thread Cert.ProjRefIdeal.nD Cert.ProjRefIdeal.τ).loc Cert.ProjRefIdeal.main_v259) = v2 c
          ∧ r.2.mem ((c.tc : Thread Cert.ProjRefIdeal.nD Cert.ProjRefIdeal.τ).loc Cert.ProjRefIdeal.main_v263) = v3 c
          ∧ r.2.mem ((c.tc : Thread Cert.ProjRefIdeal.nD Cert.ProjRefIdeal.τ).loc Cert.ProjRefIdeal.main_v267) = v4 c
          ∧ r.2.mem ((c.tc : Thread Cert.ProjRefIdeal.nD Cert.ProjRefIdeal.τ).loc Cert.ProjRefIdeal.main_v269) = v5 c
          ∧ r.2.mem ((c.tc : Thread Cert.ProjRefIdeal.nD Cert.ProjRefIdeal.τ).loc Cert.ProjRefIdeal.main_v271) = v6 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def preserves_Gqa_GqaIdeal : Prop :=
  IdealRules.named_const.Statement Cert.GqaIdeal.κ "b_scale" .f32 0x3E38AA3B#32 (((Real.log 2)⁻¹ * 8⁻¹ : ℝ) : EReal)

def algebraic_GqaIdeal_GqaRefIdeal_pre_finite_b [hGqaIdeal : Cert.GqaIdeal.Facts] [hGqaRefIdeal : Cert.GqaRefIdeal.Facts] [hPre_finite_b : Cert.Pre_finite_b.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite_b m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v10)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v10) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v18) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)) →
    ∃ (v0 : (c : Dev Cert.PostIdeal.nD) → Buf (Elt Ideal) ((c.tc : Thread Cert.PostIdeal.nD Cert.PostIdeal.τ).loc Cert.PostIdeal.main_v25)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v25) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v61) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11))

def Claim : Prop :=
  ∃ (hProj : Cert.Proj.Facts) (hProjIdeal : Cert.ProjIdeal.Facts) (hProjRefIdeal : Cert.ProjRefIdeal.Facts) (hGqa : Cert.Gqa.Facts) (hGqaIdeal : Cert.GqaIdeal.Facts) (hGqaRefIdeal : Cert.GqaRefIdeal.Facts) (hPost : Cert.Post.Facts) (hPostIdeal : Cert.PostIdeal.Facts) (hPostRefIdeal : Cert.PostRefIdeal.Facts) (hPre_finite_b : Cert.Pre_finite_b.Facts),
    quiescent_Proj (hProj := hProj)
    ∧ quiescent_ProjIdeal (hProjIdeal := hProjIdeal)
    ∧ quiescent_ProjRefIdeal (hProjRefIdeal := hProjRefIdeal)
    ∧ quiescent_Gqa (hGqa := hGqa)
    ∧ quiescent_GqaIdeal (hGqaIdeal := hGqaIdeal)
    ∧ quiescent_GqaIdeal_pre_finite_b (hGqaIdeal := hGqaIdeal) (hPre_finite_b := hPre_finite_b)
    ∧ quiescent_GqaRefIdeal (hGqaRefIdeal := hGqaRefIdeal)
    ∧ quiescent_GqaRefIdeal_pre_finite_b (hGqaRefIdeal := hGqaRefIdeal) (hPre_finite_b := hPre_finite_b)
    ∧ quiescent_Post (hPost := hPost)
    ∧ quiescent_PostIdeal (hPostIdeal := hPostIdeal)
    ∧ quiescent_PostRefIdeal (hPostRefIdeal := hPostRefIdeal)
    ∧ preserves_Proj_ProjIdeal
    ∧ algebraic_ProjIdeal_ProjRefIdeal (hProjIdeal := hProjIdeal) (hProjRefIdeal := hProjRefIdeal)
    ∧ preserves_Gqa_GqaIdeal
    ∧ algebraic_GqaIdeal_GqaRefIdeal_pre_finite_b (hGqaIdeal := hGqaIdeal) (hGqaRefIdeal := hGqaRefIdeal) (hPre_finite_b := hPre_finite_b)
    ∧ preserves_Post_PostIdeal
    ∧ algebraic_PostIdeal_PostRefIdeal (hPostIdeal := hPostIdeal) (hPostRefIdeal := hPostRefIdeal)
-- ==== Pre_finite_b.lean ====
abbrev S32x2048x2x4x64 : Shape := ⟨5, ![32, 2048, 2, 4, 64]⟩
abbrev S32x2048x2x64 : Shape := ⟨4, ![32, 2048, 2, 64]⟩
abbrev S_ : Shape := ⟨0, ![]⟩

class Facts : Prop where
  bcast_S_S32x2048x2x4x64 : S_.BroadcastsInDim S32x2048x2x4x64 (![] : Fin 0 → Fin S32x2048x2x4x64.rank)
  reducesTo_S32x2048x2x4x64_S_d0_1_2_3_4 : S32x2048x2x4x64.ReducesTo [0, 1, 2, 3, 4] S_
  h_S_ : 0 < S_.numel
  bcast_S_S32x2048x2x64 : S_.BroadcastsInDim S32x2048x2x64 (![] : Fin 0 → Fin S32x2048x2x64.rank)
  reducesTo_S32x2048x2x64_S_d0_1_2_3 : S32x2048x2x64.ReducesTo [0, 1, 2, 3] S_

variable [Facts]

def fn {F : FTy → Type} [FloatOps F] (main_arg0 : FVec F S32x2048x2x4x64 .f32) (main_arg1 : FVec F S32x2048x2x64 .f32) (main_arg2 : FVec F S32x2048x2x64 .f32) : IVec S_ 1 :=
  let main_v0 : FVec F S32x2048x2x4x64 .f32 := Host.absf main_arg0
  let main_cst : FVec F S_ .f32 := constant S_ .f32 0x7F800000#32
  let main_v1 : FVec F S32x2048x2x4x64 .f32 := broadcastInDim S32x2048x2x4x64 ![] bcast_S_S32x2048x2x4x64 main_cst
  let main_v2 : IVec S32x2048x2x4x64 1 := cmpf .olt main_v0 main_v1
  let main_c : IVec S_ 1 := constantI S_ 1 1#1
  let main_v3 : IVec S_ 1 := (fun x v => Host.reduce IntOp.andi x v reducesTo_S32x2048x2x4x64_S_d0_1_2_3_4 h_S_) main_v2 main_c
  let main_v4 : FVec F S32x2048x2x64 .f32 := Host.absf main_arg1
  let main_cst_0 : FVec F S_ .f32 := constant S_ .f32 0x7F800000#32
  let main_v5 : FVec F S32x2048x2x64 .f32 := broadcastInDim S32x2048x2x64 ![] bcast_S_S32x2048x2x64 main_cst_0
  let main_v6 : IVec S32x2048x2x64 1 := cmpf .olt main_v4 main_v5
  let main_c_1 : IVec S_ 1 := constantI S_ 1 1#1
  let main_v7 : IVec S_ 1 := (fun x v => Host.reduce IntOp.andi x v reducesTo_S32x2048x2x64_S_d0_1_2_3 h_S_) main_v6 main_c_1
  let main_v8 : IVec S_ 1 := andi main_v3 main_v7
  main_v8
-- ==== Proj.lean ====
abbrev S32x2048x1024 : Shape := ⟨3, ![32, 2048, 1024]⟩
abbrev S1024x2048 : Shape := ⟨2, ![1024, 2048]⟩
abbrev S64 : Shape := ⟨1, ![64]⟩
abbrev S256 : Shape := ⟨1, ![256]⟩
abbrev S4x128x128 : Shape := ⟨3, ![4, 128, 128]⟩
abbrev S4x128 : Shape := ⟨2, ![4, 128]⟩
abbrev S2048 : Shape := ⟨1, ![2048]⟩
abbrev S128 : Shape := ⟨1, ![128]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x1x32 : Shape := ⟨3, ![2048, 1, 32]⟩
abbrev S2048x1x2x16 : Shape := ⟨4, ![2048, 1, 2, 16]⟩
abbrev S2048x2x1x16 : Shape := ⟨4, ![2048, 2, 1, 16]⟩
abbrev S2048x1x1x16 : Shape := ⟨4, ![2048, 1, 1, 16]⟩
abbrev S2048x2x1x1x16 : Shape := ⟨5, ![2048, 2, 1, 1, 16]⟩
abbrev S2048x2x4x1x16 : Shape := ⟨5, ![2048, 2, 4, 1, 16]⟩
abbrev S2048x128 : Shape := ⟨2, ![2048, 128]⟩
abbrev S1x2048x128 : Shape := ⟨3, ![1, 2048, 128]⟩
abbrev S2x2048x128 : Shape := ⟨3, ![2, 2048, 128]⟩
abbrev S2048x2x32 : Shape := ⟨3, ![2048, 2, 32]⟩
abbrev S2048x2x2x16 : Shape := ⟨4, ![2048, 2, 2, 16]⟩
abbrev S2048x2x1x2x16 : Shape := ⟨5, ![2048, 2, 1, 2, 16]⟩
abbrev S2048x2x2x2x16 : Shape := ⟨5, ![2048, 2, 2, 2, 16]⟩
abbrev S128x4 : Shape := ⟨2, ![128, 4]⟩
abbrev S128x4x64 : Shape := ⟨3, ![128, 4, 64]⟩
abbrev S128x256 : Shape := ⟨2, ![128, 256]⟩
abbrev S65536x1024 : Shape := ⟨2, ![65536, 1024]⟩
abbrev S128x1 : Shape := ⟨2, ![128, 1]⟩
abbrev S1x128 : Shape := ⟨2, ![1, 128]⟩
abbrev S1x256 : Shape := ⟨2, ![1, 256]⟩
abbrev S65536x256 : Shape := ⟨2, ![65536, 256]⟩
abbrev S256x65536 : Shape := ⟨2, ![256, 65536]⟩
abbrev S65536x512 : Shape := ⟨2, ![65536, 512]⟩
abbrev S128x65536 : Shape := ⟨2, ![128, 65536]⟩
abbrev S65536x128 : Shape := ⟨2, ![65536, 128]⟩
abbrev S1024x1024 : Shape := ⟨2, ![1024, 1024]⟩
abbrev S1024x256 : Shape := ⟨2, ![1024, 256]⟩
abbrev S256x1024 : Shape := ⟨2, ![256, 1024]⟩
abbrev S1024x512 : Shape := ⟨2, ![1024, 512]⟩
abbrev S128x1024 : Shape := ⟨2, ![128, 1024]⟩
abbrev S1024x128 : Shape := ⟨2, ![1024, 128]⟩
abbrev S256x2048 : Shape := ⟨2, ![256, 2048]⟩
abbrev S256x128 : Shape := ⟨2, ![256, 128]⟩
abbrev S1x256x128 : Shape := ⟨3, ![1, 256, 128]⟩
abbrev S256x256 : Shape := ⟨2, ![256, 256]⟩
abbrev S256x1 : Shape := ⟨2, ![256, 1]⟩
abbrev S1x128x128 : Shape := ⟨3, ![1, 128, 128]⟩
abbrev S128x128 : Shape := ⟨2, ![128, 128]⟩

abbrev nBuf : Space → Nat
  | .hbm => 206
  | .vmem => 27
  | .smem => 0
  | _ => 0

abbrev hbmTy0_0 (i : Nat) : BufTy := match i % 128 with
  | 0 => ⟨S32x2048x1024, .f32⟩
  | 1 => ⟨S1024x2048, .f32⟩
  | 2 => ⟨S64, .f32⟩
  | 3 => ⟨S64, .f32⟩
  | 4 => ⟨S256, .f32⟩
  | 5 => ⟨S256, .f32⟩
  | 6 => ⟨S4x128x128, .f32⟩
  | 7 => ⟨S4x128, .f32⟩
  | 8 => ⟨S2048, .i32⟩
  | 9 => ⟨S2048, .i1⟩
  | 10 => ⟨S128, .i32⟩
  | 11 => ⟨S128, .i1⟩
  | 12 => ⟨S128, .i1⟩
  | 13 => ⟨S2048, .i32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S_, .f32⟩
  | 28 => ⟨S16, .f32⟩
  | 29 => ⟨S16, .f32⟩
  | 30 => ⟨S2048, .f32⟩
  | 31 => ⟨S2048x1, .f32⟩
  | 32 => ⟨S1x16, .f32⟩
  | 33 => ⟨S2048x16, .f32⟩
  | 34 => ⟨S2048x16, .f32⟩
  | 35 => ⟨S2048x16, .f32⟩
  | 36 => ⟨S2048x32, .f32⟩
  | 37 => ⟨S2048x32, .f32⟩
  | 38 => ⟨S2048x32, .f32⟩
  | 39 => ⟨S_, .i32⟩
  | 40 => ⟨S_, .i32⟩
  | 41 => ⟨S2048, .i32⟩
  | 42 => ⟨S2048, .i32⟩
  | 43 => ⟨S2048, .i32⟩
  | 44 => ⟨S_, .i32⟩
  | 45 => ⟨S2048, .i32⟩
  | 46 => ⟨S2048, .i1⟩
  | 47 => ⟨S2048, .i32⟩
  | 48 => ⟨S2048, .i32⟩
  | 49 => ⟨S_, .i32⟩
  | 50 => ⟨S2048, .i32⟩
  | 51 => ⟨S2048, .i1⟩
  | 52 => ⟨S2048, .i1⟩
  | 53 => ⟨S_, .i32⟩
  | 54 => ⟨S2048, .i32⟩
  | 55 => ⟨S2048, .i32⟩
  | 56 => ⟨S2048, .i32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S_, .f32⟩
  | 65 => ⟨S16, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S2048, .f32⟩
  | 74 => ⟨S2048x1, .f32⟩
  | 75 => ⟨S1x16, .f32⟩
  | 76 => ⟨S2048x16, .f32⟩
  | 77 => ⟨S2048x16, .f32⟩
  | 78 => ⟨S2048x16, .f32⟩
  | 79 => ⟨S2048x32, .f32⟩
  | 80 => ⟨S2048x32, .f32⟩
  | 81 => ⟨S2048x32, .f32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S2048, .i32⟩
  | 89 => ⟨S2048, .i32⟩
  | 90 => ⟨S_, .i32⟩
  | 91 => ⟨S2048, .i32⟩
  | 92 => ⟨S2048, .i1⟩
  | 93 => ⟨S_, .i32⟩
  | 94 => ⟨S2048, .i32⟩
  | 95 => ⟨S2048, .i1⟩
  | 96 => ⟨S_, .i32⟩
  | 97 => ⟨S_, .i1⟩
  | 98 => ⟨S2048, .i1⟩
  | 99 => ⟨S2048, .i1⟩
  | 100 => ⟨S2048, .i1⟩
  | 101 => ⟨S2048, .i32⟩
  | 102 => ⟨S2048, .i32⟩
  | 103 => ⟨S2048, .i32⟩
  | 104 => ⟨S16, .f32⟩
  | 105 => ⟨S_, .f32⟩
  | 106 => ⟨S16, .f32⟩
  | 107 => ⟨S16, .f32⟩
  | 108 => ⟨S_, .f32⟩
  | 109 => ⟨S16, .f32⟩
  | 110 => ⟨S16, .f32⟩
  | 111 => ⟨S_, .f32⟩
  | 112 => ⟨S16, .f32⟩
  | 113 => ⟨S16, .f32⟩
  | 114 => ⟨S_, .f32⟩
  | 115 => ⟨S16, .f32⟩
  | 116 => ⟨S16, .f32⟩
  | 117 => ⟨S_, .f32⟩
  | 118 => ⟨S16, .f32⟩
  | 119 => ⟨S16, .f32⟩
  | 120 => ⟨S2048, .f32⟩
  | 121 => ⟨S2048x1, .f32⟩
  | 122 => ⟨S1x16, .f32⟩
  | 123 => ⟨S2048x16, .f32⟩
  | 124 => ⟨S2048x16, .f32⟩
  | 125 => ⟨S2048x16, .f32⟩
  | 126 => ⟨S2048x32, .f32⟩
  | 127 => ⟨S2048x32, .f32⟩
  | _ => ⟨S32x2048x1024, .f32⟩

abbrev hbmTy0_1 (i : Nat) : BufTy := match i % 128 with
  | 0 => ⟨S2048x32, .f32⟩
  | 1 => ⟨S2048x1x32, .f32⟩
  | 2 => ⟨S2048x1x2x16, .f32⟩
  | 3 => ⟨S2048x2x1x16, .f32⟩
  | 4 => ⟨S2048x1x1x16, .f32⟩
  | 5 => ⟨S2048x1x1x16, .f32⟩
  | 6 => ⟨S2048x1x1x16, .f32⟩
  | 7 => ⟨S2048x2x1x16, .f32⟩
  | 8 => ⟨S2048x1x32, .f32⟩
  | 9 => ⟨S2048x1x2x16, .f32⟩
  | 10 => ⟨S2048x2x1x16, .f32⟩
  | 11 => ⟨S2048x2x1x1x16, .f32⟩
  | 12 => ⟨S2048x2x4x1x16, .f32⟩
  | 13 => ⟨S2048x128, .f32⟩
  | 14 => ⟨S2048x2x1x1x16, .f32⟩
  | 15 => ⟨S2048x2x4x1x16, .f32⟩
  | 16 => ⟨S2048x128, .f32⟩
  | 17 => ⟨S1x2048x128, .f32⟩
  | 18 => ⟨S1x2048x128, .f32⟩
  | 19 => ⟨S2x2048x128, .f32⟩
  | 20 => ⟨S2048x1x32, .f32⟩
  | 21 => ⟨S2048x1x32, .f32⟩
  | 22 => ⟨S2048x2x32, .f32⟩
  | 23 => ⟨S2048x2x2x16, .f32⟩
  | 24 => ⟨S2048x2x2x16, .f32⟩
  | 25 => ⟨S2048x1x2x16, .f32⟩
  | 26 => ⟨S2048x1x2x16, .f32⟩
  | 27 => ⟨S2048x1x2x16, .f32⟩
  | 28 => ⟨S2048x2x2x16, .f32⟩
  | 29 => ⟨S2048x1x32, .f32⟩
  | 30 => ⟨S2048x1x32, .f32⟩
  | 31 => ⟨S2048x2x32, .f32⟩
  | 32 => ⟨S2048x2x2x16, .f32⟩
  | 33 => ⟨S2048x2x2x16, .f32⟩
  | 34 => ⟨S2048x2x1x2x16, .f32⟩
  | 35 => ⟨S2048x2x2x2x16, .f32⟩
  | 36 => ⟨S2048x128, .f32⟩
  | 37 => ⟨S2048x2x1x2x16, .f32⟩
  | 38 => ⟨S2048x2x2x2x16, .f32⟩
  | 39 => ⟨S2048x128, .f32⟩
  | 40 => ⟨S1x2048x128, .f32⟩
  | 41 => ⟨S1x2048x128, .f32⟩
  | 42 => ⟨S2x2048x128, .f32⟩
  | 43 => ⟨S128x4, .f32⟩
  | 44 => ⟨S128x4x64, .f32⟩
  | 45 => ⟨S128x256, .f32⟩
  | 46 => ⟨S65536x1024, .f32⟩
  | 47 => ⟨S_, .i32⟩
  | 48 => ⟨S2048, .i32⟩
  | 49 => ⟨S2048, .i32⟩
  | 50 => ⟨S2048, .i32⟩
  | 51 => ⟨S2048x1, .i32⟩
  | 52 => ⟨S1024x2048, .f32⟩
  | 53 => ⟨S1024x2048, .bf16⟩
  | 54 => ⟨S_, .i32⟩
  | 55 => ⟨S128, .i32⟩
  | 56 => ⟨S128, .i32⟩
  | 57 => ⟨S128, .i32⟩
  | 58 => ⟨S128x1, .i32⟩
  | 59 => ⟨S128, .f32⟩
  | 60 => ⟨S1x128, .f32⟩
  | 61 => ⟨S_, .i32⟩
  | 62 => ⟨S128, .i32⟩
  | 63 => ⟨S128, .i32⟩
  | 64 => ⟨S128, .i32⟩
  | 65 => ⟨S128x1, .i32⟩
  | 66 => ⟨S128, .f32⟩
  | 67 => ⟨S1x128, .f32⟩
  | 68 => ⟨S1x256, .f32⟩
  | 69 => ⟨S1x256, .f32⟩
  | 70 => ⟨S4x128x128, .bf16⟩
  | 71 => ⟨S65536x256, .bf16⟩
  | 72 => ⟨S256x65536, .bf16⟩
  | 73 => ⟨S65536x256, .bf16⟩
  | 74 => ⟨S65536x512, .bf16⟩
  | 75 => ⟨S128x65536, .bf16⟩
  | 76 => ⟨S65536x128, .bf16⟩
  | 77 => ⟨S65536x256, .bf16⟩
  | _ => ⟨S32x2048x1024, .f32⟩

abbrev hbmTy (i : Nat) : BufTy := match i / 128 with
  | 0 => hbmTy0_0 i
  | 1 => hbmTy0_1 i
  | _ => ⟨S32x2048x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1024x2048, .bf16⟩
  | .local _ .vmem, ⟨3, _⟩ => ⟨S2x2048x128, .f32⟩
  | .local _ .vmem, ⟨4, _⟩ => ⟨S2x2048x128, .f32⟩
  | .local _ .vmem, ⟨5, _⟩ => ⟨S1x128, .f32⟩
  | .local _ .vmem, ⟨6, _⟩ => ⟨S1x128, .f32⟩
  | .local _ .vmem, ⟨7, _⟩ => ⟨S1x256, .f32⟩
  | .local _ .vmem, ⟨8, _⟩ => ⟨S1x256, .f32⟩
  | .local _ .vmem, ⟨9, _⟩ => ⟨S4x128x128, .bf16⟩
  | .local _ .vmem, ⟨10, _⟩ => ⟨S128x256, .f32⟩
  | .local _ .vmem, ⟨11, _⟩ => ⟨S1024x256, .bf16⟩
  | .local _ .vmem, ⟨12, _⟩ => ⟨S1024x256, .bf16⟩
  | .local _ .vmem, ⟨13, _⟩ => ⟨S256x1024, .bf16⟩
  | .local _ .vmem, ⟨14, _⟩ => ⟨S256x1024, .bf16⟩
  | .local _ .vmem, ⟨15, _⟩ => ⟨S1024x256, .bf16⟩
  | .local _ .vmem, ⟨16, _⟩ => ⟨S1024x256, .bf16⟩
  | .local _ .vmem, ⟨17, _⟩ => ⟨S1024x512, .bf16⟩
  | .local _ .vmem, ⟨18, _⟩ => ⟨S1024x512, .bf16⟩
  | .local _ .vmem, ⟨19, _⟩ => ⟨S128x1024, .bf16⟩
  | .local _ .vmem, ⟨20, _⟩ => ⟨S128x1024, .bf16⟩
  | .local _ .vmem, ⟨21, _⟩ => ⟨S1024x128, .bf16⟩
  | .local _ .vmem, ⟨22, _⟩ => ⟨S1024x128, .bf16⟩
  | .local _ .vmem, ⟨23, _⟩ => ⟨S1024x256, .bf16⟩
  | .local _ .vmem, ⟨24, _⟩ => ⟨S1024x256, .bf16⟩
  | .local _ .vmem, ⟨25, _⟩ => ⟨S256x2048, .f32⟩
  | .local _ .vmem, ⟨26, _⟩ => ⟨S256x2048, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_c_3 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_4 : Ref sig .tc := ⟨.hbm, 18, rfl⟩
abbrev main_v4 : Ref sig .tc := ⟨.hbm, 19, rfl⟩
abbrev main_v5 : Ref sig .tc := ⟨.hbm, 20, rfl⟩
abbrev main_cst_5 : Ref sig .tc := ⟨.hbm, 21, rfl⟩
abbrev main_v6 : Ref sig .tc := ⟨.hbm, 22, rfl⟩
abbrev main_v7 : Ref sig .tc := ⟨.hbm, 23, rfl⟩
abbrev main_cst_6 : Ref sig .tc := ⟨.hbm, 24, rfl⟩
abbrev main_v8 : Ref sig .tc := ⟨.hbm, 25, rfl⟩
abbrev main_v9 : Ref sig .tc := ⟨.hbm, 26, rfl⟩
abbrev main_cst_7 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_8 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_c : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_0 : Ref sig .tc := ⟨.hbm, 53, rfl⟩
abbrev main_call0_v12 : Ref sig .tc := ⟨.hbm, 54, rfl⟩
abbrev main_call0_v13 : Ref sig .tc := ⟨.hbm, 55, rfl⟩
abbrev main_v21 : Ref sig .tc := ⟨.hbm, 56, rfl⟩
abbrev main_v22 : Ref sig .tc := ⟨.hbm, 57, rfl⟩
abbrev main_cst_9 : Ref sig .tc := ⟨.hbm, 58, rfl⟩
abbrev main_v23 : Ref sig .tc := ⟨.hbm, 59, rfl⟩
abbrev main_v24 : Ref sig .tc := ⟨.hbm, 60, rfl⟩
abbrev main_cst_10 : Ref sig .tc := ⟨.hbm, 61, rfl⟩
abbrev main_v25 : Ref sig .tc := ⟨.hbm, 62, rfl⟩
abbrev main_v26 : Ref sig .tc := ⟨.hbm, 63, rfl⟩
abbrev main_cst_11 : Ref sig .tc := ⟨.hbm, 64, rfl⟩
abbrev main_v27 : Ref sig .tc := ⟨.hbm, 65, rfl⟩
abbrev main_v28 : Ref sig .tc := ⟨.hbm, 66, rfl⟩
abbrev main_cst_12 : Ref sig .tc := ⟨.hbm, 67, rfl⟩
abbrev main_v29 : Ref sig .tc := ⟨.hbm, 68, rfl⟩
abbrev main_v30 : Ref sig .tc := ⟨.hbm, 69, rfl⟩
abbrev main_cst_13 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_c_14 : Ref sig .tc := ⟨.hbm, 82, rfl⟩
abbrev main_call1_v0 : Ref sig .tc := ⟨.hbm, 83, rfl⟩
abbrev main_call1_c : Ref sig .tc := ⟨.hbm, 84, rfl⟩
abbrev main_call1_v1 : Ref sig .tc := ⟨.hbm, 85, rfl⟩
abbrev main_call1_c_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_c_1 : Ref sig .tc := ⟨.hbm, 90, rfl⟩
abbrev main_call1_v5 : Ref sig .tc := ⟨.hbm, 91, rfl⟩
abbrev main_call1_v6 : Ref sig .tc := ⟨.hbm, 92, rfl⟩
abbrev main_call1_c_2 : Ref sig .tc := ⟨.hbm, 93, rfl⟩
abbrev main_call1_v7 : Ref sig .tc := ⟨.hbm, 94, rfl⟩
abbrev main_call1_v8 : Ref sig .tc := ⟨.hbm, 95, rfl⟩
abbrev main_call1_c_3 : Ref sig .tc := ⟨.hbm, 96, rfl⟩
abbrev main_call1_v9 : Ref sig .tc := ⟨.hbm, 97, rfl⟩
abbrev main_call1_v10 : Ref sig .tc := ⟨.hbm, 98, rfl⟩
abbrev main_call1_v11 : Ref sig .tc := ⟨.hbm, 99, rfl⟩
abbrev main_call1_v12 : Ref sig .tc := ⟨.hbm, 100, rfl⟩
abbrev main_call1_v13 : Ref sig .tc := ⟨.hbm, 101, rfl⟩
abbrev main_call1_v14 : Ref sig .tc := ⟨.hbm, 102, rfl⟩
abbrev main_v42 : Ref sig .tc := ⟨.hbm, 103, rfl⟩
abbrev main_v43 : Ref sig .tc := ⟨.hbm, 104, rfl⟩
abbrev main_cst_15 : Ref sig .tc := ⟨.hbm, 105, rfl⟩
abbrev main_v44 : Ref sig .tc := ⟨.hbm, 106, rfl⟩
abbrev main_v45 : Ref sig .tc := ⟨.hbm, 107, rfl⟩
abbrev main_cst_16 : Ref sig .tc := ⟨.hbm, 108, rfl⟩
abbrev main_v46 : Ref sig .tc := ⟨.hbm, 109, rfl⟩
abbrev main_v47 : Ref sig .tc := ⟨.hbm, 110, rfl⟩
abbrev main_cst_17 : Ref sig .tc := ⟨.hbm, 111, rfl⟩
abbrev main_v48 : Ref sig .tc := ⟨.hbm, 112, rfl⟩
abbrev main_v49 : Ref sig .tc := ⟨.hbm, 113, rfl⟩
abbrev main_cst_18 : Ref sig .tc := ⟨.hbm, 114, rfl⟩
abbrev main_v50 : Ref sig .tc := ⟨.hbm, 115, rfl⟩
abbrev main_v51 : Ref sig .tc := ⟨.hbm, 116, rfl⟩
abbrev main_cst_19 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_c_20 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_c_21 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_c_22 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_v130_0 : Ref sig .tc := ⟨.hbm, 199, rfl⟩
abbrev main_v130_1 : Ref sig .tc := ⟨.hbm, 200, rfl⟩
abbrev main_v130_2 : Ref sig .tc := ⟨.hbm, 201, rfl⟩
abbrev main_v130_3 : Ref sig .tc := ⟨.hbm, 202, rfl⟩
abbrev main_v130_4 : Ref sig .tc := ⟨.hbm, 203, rfl⟩
abbrev main_v130_5 : Ref sig .tc := ⟨.hbm, 204, rfl⟩
abbrev main_v130_6 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c0_i32_26 : BitVec 32 := 0#32
  let v73 : BitVec 32 := Scalar.addi v10 c0_i32_26
  v73
def k0_off1 (i : grid0.Coords) (c0_i32_26 : BitVec 32) : Fin 3 → Nat :=
  let c0_27 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let v73 : BitVec 32 := Scalar.addi v10 c0_i32_26
  let v74 : BitVec 32 := v73
  let v75 : Index := Scalar.indexCast v74
  let c0_28 : Index := 0#32
  ![0, v75.toNat, 0]
def k0_off2 (i : grid0.Coords) (c0_i32_26 : BitVec 32) : Fin 3 → Nat :=
  let c1 : Index := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let v73 : BitVec 32 := Scalar.addi v10 c0_i32_26
  let v74 : BitVec 32 := v73
  let v78 : Index := Scalar.indexCast v74
  let c0_29 : Index := 0#32
  ![1, v78.toNat, 0]
def k0_mult2 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c256_i32 : BitVec 32 := 256#32
  let v417 : BitVec 32 := Scalar.addi v10 c256_i32
  v417
def k0_mult3 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c512_i32 : BitVec 32 := 512#32
  let v761 : BitVec 32 := Scalar.addi v10 c512_i32
  v761
def k0_mult4 (i : grid0.Coords) : BitVec 32 :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1024_i32 : BitVec 32 := 1024#32
  let v10 : BitVec 32 := Scalar.muli v9 c1024_i32
  let c768_i32 : BitVec 32 := 768#32
  let v1096 : BitVec 32 := Scalar.addi v10 c768_i32
  v1096
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ProjRefIdeal.lean ====
abbrev S32x2048x1024 : Shape := ⟨3, ![32, 2048, 1024]⟩
abbrev S1024x2048 : Shape := ⟨2, ![1024, 2048]⟩
abbrev S64 : Shape := ⟨1, ![64]⟩
abbrev S256 : Shape := ⟨1, ![256]⟩
abbrev S4x128x128 : Shape := ⟨3, ![4, 128, 128]⟩
abbrev S4x128 : Shape := ⟨2, ![4, 128]⟩
abbrev S2048 : Shape := ⟨1, ![2048]⟩
abbrev S32 : Shape := ⟨1, ![32]⟩
abbrev S32x64 : Shape := ⟨2, ![32, 64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S32x2048x2048 : Shape := ⟨3, ![32, 2048, 2048]⟩
abbrev S32x2048x256 : Shape := ⟨3, ![32, 2048, 256]⟩
abbrev S32x2048x512 : Shape := ⟨3, ![32, 2048, 512]⟩
abbrev S32x2048x128 : Shape := ⟨3, ![32, 2048, 128]⟩
abbrev S32x2048x4x2x32 : Shape := ⟨5, ![32, 2048, 4, 2, 32]⟩
abbrev S2048x1x1x32 : Shape := ⟨4, ![2048, 1, 1, 32]⟩
abbrev S1x2048x1x1x32 : Shape := ⟨5, ![1, 2048, 1, 1, 32]⟩
abbrev S32x2048x4x2x16 : Shape := ⟨5, ![32, 2048, 4, 2, 16]⟩
abbrev S32x2048x2x4x64 : Shape := ⟨5, ![32, 2048, 2, 4, 64]⟩
abbrev S32x2048x2x4 : Shape := ⟨4, ![32, 2048, 2, 4]⟩
abbrev S32x2048x2x4x1 : Shape := ⟨5, ![32, 2048, 2, 4, 1]⟩
abbrev S1x1x1x1x64 : Shape := ⟨5, ![1, 1, 1, 1, 64]⟩
abbrev S32x2048x2x4x32 : Shape := ⟨5, ![32, 2048, 2, 4, 32]⟩
abbrev S32x2048x2x4x16 : Shape := ⟨5, ![32, 2048, 2, 4, 16]⟩
abbrev S32x2048x2x64 : Shape := ⟨4, ![32, 2048, 2, 64]⟩
abbrev S32x2048x2 : Shape := ⟨3, ![32, 2048, 2]⟩
abbrev S32x2048x2x1 : Shape := ⟨4, ![32, 2048, 2, 1]⟩
abbrev S1x1x1x64 : Shape := ⟨4, ![1, 1, 1, 64]⟩
abbrev S32x2048x2x32 : Shape := ⟨4, ![32, 2048, 2, 32]⟩
abbrev S2048x1x32 : Shape := ⟨3, ![2048, 1, 32]⟩
abbrev S1x2048x1x32 : Shape := ⟨4, ![1, 2048, 1, 32]⟩
abbrev S32x2048x2x16 : Shape := ⟨4, ![32, 2048, 2, 16]⟩
abbrev S32x2048 : Shape := ⟨2, ![32, 2048]⟩
abbrev S32x2048x1 : Shape := ⟨3, ![32, 2048, 1]⟩
abbrev S1x1x256 : Shape := ⟨3, ![1, 1, 256]⟩
abbrev S32x16x128x4x64 : Shape := ⟨5, ![32, 16, 128, 4, 64]⟩
abbrev S4x32x16x64x128 : Shape := ⟨5, ![4, 32, 16, 64, 128]⟩
abbrev S128x4 : Shape := ⟨2, ![128, 4]⟩
abbrev S1x1x128x4x1 : Shape := ⟨5, ![1, 1, 128, 4, 1]⟩
abbrev S65536x2x4x2x16 : Shape := ⟨5, ![65536, 2, 4, 2, 16]⟩
abbrev S65536x2x2x4x16 : Shape := ⟨5, ![65536, 2, 2, 4, 16]⟩
abbrev S65536x256 : Shape := ⟨2, ![65536, 256]⟩
abbrev S2x2x4x16x65536 : Shape := ⟨5, ![2, 2, 4, 16, 65536]⟩
abbrev S256x65536 : Shape := ⟨2, ![256, 65536]⟩
abbrev S65536x2x4x2x2x16 : Shape := ⟨6, ![65536, 2, 4, 2, 2, 16]⟩
abbrev S65536x4x2x2x2x16 : Shape := ⟨6, ![65536, 4, 2, 2, 2, 16]⟩
abbrev S65536x512 : Shape := ⟨2, ![65536, 512]⟩
abbrev S65536x2x2x2x16 : Shape := ⟨5, ![65536, 2, 2, 2, 16]⟩
abbrev S2x2x2x16x65536 : Shape := ⟨5, ![2, 2, 2, 16, 65536]⟩
abbrev S128x65536 : Shape := ⟨2, ![128, 65536]⟩
abbrev S65536x128 : Shape := ⟨2, ![65536, 128]⟩

abbrev nBuf : Space → Nat
  | .hbm => 314
  | .vmem => 0
  | .smem => 0
  | _ => 0

abbrev hbmTy0_0 (i : Nat) : BufTy := match i % 128 with
  | 0 => ⟨S32x2048x1024, .f32⟩
  | 1 => ⟨S1024x2048, .f32⟩
  | 2 => ⟨S64, .f32⟩
  | 3 => ⟨S64, .f32⟩
  | 4 => ⟨S256, .f32⟩
  | 5 => ⟨S256, .f32⟩
  | 6 => ⟨S4x128x128, .f32⟩
  | 7 => ⟨S4x128, .f32⟩
  | 8 => ⟨S2048, .i32⟩
  | 9 => ⟨S32, .i32⟩
  | 10 => ⟨S32x64, .i32⟩
  | 11 => ⟨S2048, .i32⟩
  | 12 => ⟨S64, .i32⟩
  | 13 => ⟨S1x64, .i32⟩
  | 14 => ⟨S32x64, .i32⟩
  | 15 => ⟨S2048, .i32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S_, .f32⟩
  | 30 => ⟨S16, .f32⟩
  | 31 => ⟨S16, .f32⟩
  | 32 => ⟨S2048, .f32⟩
  | 33 => ⟨S2048x1, .f32⟩
  | 34 => ⟨S1x16, .f32⟩
  | 35 => ⟨S2048x16, .f32⟩
  | 36 => ⟨S2048x16, .f32⟩
  | 37 => ⟨S2048x16, .f32⟩
  | 38 => ⟨S2048x32, .f32⟩
  | 39 => ⟨S2048x32, .f32⟩
  | 40 => ⟨S2048x32, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S2048, .f32⟩
  | 58 => ⟨S2048x1, .f32⟩
  | 59 => ⟨S1x16, .f32⟩
  | 60 => ⟨S2048x16, .f32⟩
  | 61 => ⟨S2048x16, .f32⟩
  | 62 => ⟨S2048x16, .f32⟩
  | 63 => ⟨S2048x32, .f32⟩
  | 64 => ⟨S2048x32, .f32⟩
  | 65 => ⟨S2048x32, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S_, .f32⟩
  | 80 => ⟨S16, .f32⟩
  | 81 => ⟨S16, .f32⟩
  | 82 => ⟨S2048, .f32⟩
  | 83 => ⟨S2048x1, .f32⟩
  | 84 => ⟨S1x16, .f32⟩
  | 85 => ⟨S2048x16, .f32⟩
  | 86 => ⟨S2048x16, .f32⟩
  | 87 => ⟨S2048x16, .f32⟩
  | 88 => ⟨S2048x32, .f32⟩
  | 89 => ⟨S2048x32, .f32⟩
  | 90 => ⟨S2048x32, .f32⟩
  | 91 => ⟨S32x2048x2048, .f32⟩
  | 92 => ⟨S32x2048x256, .f32⟩
  | 93 => ⟨S32x2048x256, .f32⟩
  | 94 => ⟨S32x2048x256, .f32⟩
  | 95 => ⟨S32x2048x512, .f32⟩
  | 96 => ⟨S32x2048x128, .f32⟩
  | 97 => ⟨S32x2048x128, .f32⟩
  | 98 => ⟨S32x2048x256, .f32⟩
  | 99 => ⟨S32x2048x256, .f32⟩
  | 100 => ⟨S32x2048x4x2x32, .f32⟩
  | 101 => ⟨S2048x1x1x32, .f32⟩
  | 102 => ⟨S1x2048x1x1x32, .f32⟩
  | 103 => ⟨S32x2048x4x2x32, .f32⟩
  | 104 => ⟨S32x2048x4x2x32, .f32⟩
  | 105 => ⟨S32x2048x4x2x16, .f32⟩
  | 106 => ⟨S32x2048x4x2x16, .f32⟩
  | 107 => ⟨S32x2048x4x2x16, .f32⟩
  | 108 => ⟨S32x2048x4x2x32, .f32⟩
  | 109 => ⟨S2048x1x1x32, .f32⟩
  | 110 => ⟨S1x2048x1x1x32, .f32⟩
  | 111 => ⟨S32x2048x4x2x32, .f32⟩
  | 112 => ⟨S32x2048x4x2x32, .f32⟩
  | 113 => ⟨S32x2048x4x2x32, .f32⟩
  | 114 => ⟨S32x2048x4x2x32, .f32⟩
  | 115 => ⟨S2048x1x1x32, .f32⟩
  | 116 => ⟨S1x2048x1x1x32, .f32⟩
  | 117 => ⟨S32x2048x4x2x32, .f32⟩
  | 118 => ⟨S32x2048x4x2x32, .f32⟩
  | 119 => ⟨S32x2048x4x2x16, .f32⟩
  | 120 => ⟨S32x2048x4x2x16, .f32⟩
  | 121 => ⟨S32x2048x4x2x16, .f32⟩
  | 122 => ⟨S32x2048x4x2x32, .f32⟩
  | 123 => ⟨S2048x1x1x32, .f32⟩
  | 124 => ⟨S1x2048x1x1x32, .f32⟩
  | 125 => ⟨S32x2048x4x2x32, .f32⟩
  | 126 => ⟨S32x2048x4x2x32, .f32⟩
  | 127 => ⟨S32x2048x4x2x32, .f32⟩
  | _ => ⟨S32x2048x1024, .f32⟩

abbrev hbmTy0_1 (i : Nat) : BufTy := match i % 128 with
  | 0 => ⟨S32x2048x2x4x64, .f32⟩
  | 1 => ⟨S32x2048x2x4x64, .f32⟩
  | 2 => ⟨S_, .f32⟩
  | 3 => ⟨S32x2048x2x4, .f32⟩
  | 4 => ⟨S32x2048x2x4x1, .f32⟩
  | 5 => ⟨S_, .f32⟩
  | 6 => ⟨S32x2048x2x4x1, .f32⟩
  | 7 => ⟨S32x2048x2x4x1, .f32⟩
  | 8 => ⟨S_, .f32⟩
  | 9 => ⟨S32x2048x2x4x1, .f32⟩
  | 10 => ⟨S32x2048x2x4x1, .f32⟩
  | 11 => ⟨S32x2048x2x4x1, .f32⟩
  | 12 => ⟨S32x2048x2x4x64, .f32⟩
  | 13 => ⟨S32x2048x2x4x64, .f32⟩
  | 14 => ⟨S1x1x1x1x64, .f32⟩
  | 15 => ⟨S32x2048x2x4x64, .f32⟩
  | 16 => ⟨S32x2048x2x4x64, .f32⟩
  | 17 => ⟨S32x2048x2x4x32, .f32⟩
  | 18 => ⟨S32x2048x2x4x32, .f32⟩
  | 19 => ⟨S2048x1x1x32, .f32⟩
  | 20 => ⟨S1x2048x1x1x32, .f32⟩
  | 21 => ⟨S32x2048x2x4x32, .f32⟩
  | 22 => ⟨S32x2048x2x4x32, .f32⟩
  | 23 => ⟨S32x2048x2x4x16, .f32⟩
  | 24 => ⟨S32x2048x2x4x16, .f32⟩
  | 25 => ⟨S32x2048x2x4x16, .f32⟩
  | 26 => ⟨S32x2048x2x4x32, .f32⟩
  | 27 => ⟨S2048x1x1x32, .f32⟩
  | 28 => ⟨S1x2048x1x1x32, .f32⟩
  | 29 => ⟨S32x2048x2x4x32, .f32⟩
  | 30 => ⟨S32x2048x2x4x32, .f32⟩
  | 31 => ⟨S32x2048x2x4x32, .f32⟩
  | 32 => ⟨S2048x1x1x32, .f32⟩
  | 33 => ⟨S1x2048x1x1x32, .f32⟩
  | 34 => ⟨S32x2048x2x4x32, .f32⟩
  | 35 => ⟨S32x2048x2x4x32, .f32⟩
  | 36 => ⟨S32x2048x2x4x16, .f32⟩
  | 37 => ⟨S32x2048x2x4x16, .f32⟩
  | 38 => ⟨S32x2048x2x4x16, .f32⟩
  | 39 => ⟨S32x2048x2x4x32, .f32⟩
  | 40 => ⟨S2048x1x1x32, .f32⟩
  | 41 => ⟨S1x2048x1x1x32, .f32⟩
  | 42 => ⟨S32x2048x2x4x32, .f32⟩
  | 43 => ⟨S32x2048x2x4x32, .f32⟩
  | 44 => ⟨S32x2048x2x4x32, .f32⟩
  | 45 => ⟨S32x2048x2x4x64, .f32⟩
  | 46 => ⟨S32x2048x2x64, .f32⟩
  | 47 => ⟨S32x2048x2x64, .f32⟩
  | 48 => ⟨S_, .f32⟩
  | 49 => ⟨S32x2048x2, .f32⟩
  | 50 => ⟨S32x2048x2x1, .f32⟩
  | 51 => ⟨S_, .f32⟩
  | 52 => ⟨S32x2048x2x1, .f32⟩
  | 53 => ⟨S32x2048x2x1, .f32⟩
  | 54 => ⟨S_, .f32⟩
  | 55 => ⟨S32x2048x2x1, .f32⟩
  | 56 => ⟨S32x2048x2x1, .f32⟩
  | 57 => ⟨S32x2048x2x1, .f32⟩
  | 58 => ⟨S32x2048x2x64, .f32⟩
  | 59 => ⟨S32x2048x2x64, .f32⟩
  | 60 => ⟨S1x1x1x64, .f32⟩
  | 61 => ⟨S32x2048x2x64, .f32⟩
  | 62 => ⟨S32x2048x2x64, .f32⟩
  | 63 => ⟨S32x2048x2x32, .f32⟩
  | 64 => ⟨S32x2048x2x32, .f32⟩
  | 65 => ⟨S2048x1x32, .f32⟩
  | 66 => ⟨S1x2048x1x32, .f32⟩
  | 67 => ⟨S32x2048x2x32, .f32⟩
  | 68 => ⟨S32x2048x2x32, .f32⟩
  | 69 => ⟨S32x2048x2x16, .f32⟩
  | 70 => ⟨S32x2048x2x16, .f32⟩
  | 71 => ⟨S32x2048x2x16, .f32⟩
  | 72 => ⟨S32x2048x2x32, .f32⟩
  | 73 => ⟨S2048x1x32, .f32⟩
  | 74 => ⟨S1x2048x1x32, .f32⟩
  | 75 => ⟨S32x2048x2x32, .f32⟩
  | 76 => ⟨S32x2048x2x32, .f32⟩
  | 77 => ⟨S32x2048x2x32, .f32⟩
  | 78 => ⟨S2048x1x32, .f32⟩
  | 79 => ⟨S1x2048x1x32, .f32⟩
  | 80 => ⟨S32x2048x2x32, .f32⟩
  | 81 => ⟨S32x2048x2x32, .f32⟩
  | 82 => ⟨S32x2048x2x16, .f32⟩
  | 83 => ⟨S32x2048x2x16, .f32⟩
  | 84 => ⟨S32x2048x2x16, .f32⟩
  | 85 => ⟨S32x2048x2x32, .f32⟩
  | 86 => ⟨S2048x1x32, .f32⟩
  | 87 => ⟨S1x2048x1x32, .f32⟩
  | 88 => ⟨S32x2048x2x32, .f32⟩
  | 89 => ⟨S32x2048x2x32, .f32⟩
  | 90 => ⟨S32x2048x2x32, .f32⟩
  | 91 => ⟨S32x2048x2x64, .f32⟩
  | 92 => ⟨S32x2048x256, .f32⟩
  | 93 => ⟨S32x2048x256, .f32⟩
  | 94 => ⟨S_, .f32⟩
  | 95 => ⟨S32x2048x256, .f32⟩
  | 96 => ⟨S32x2048x256, .f32⟩
  | 97 => ⟨S32x2048x256, .f32⟩
  | 98 => ⟨S_, .f32⟩
  | 99 => ⟨S32x2048x256, .f32⟩
  | 100 => ⟨S32x2048x256, .f32⟩
  | 101 => ⟨S32x2048x256, .f32⟩
  | 102 => ⟨S_, .f32⟩
  | 103 => ⟨S32x2048x256, .f32⟩
  | 104 => ⟨S32x2048x256, .f32⟩
  | 105 => ⟨S_, .f32⟩
  | 106 => ⟨S32x2048x256, .f32⟩
  | 107 => ⟨S32x2048x256, .f32⟩
  | 108 => ⟨S32x2048x256, .f32⟩
  | 109 => ⟨S32x2048x256, .f32⟩
  | 110 => ⟨S32x2048x256, .f32⟩
  | 111 => ⟨S_, .f32⟩
  | 112 => ⟨S32x2048x256, .f32⟩
  | 113 => ⟨S32x2048x256, .f32⟩
  | 114 => ⟨S32x2048x256, .f32⟩
  | 115 => ⟨S_, .f32⟩
  | 116 => ⟨S32x2048x256, .f32⟩
  | 117 => ⟨S32x2048x256, .f32⟩
  | 118 => ⟨S32x2048x256, .f32⟩
  | 119 => ⟨S_, .f32⟩
  | 120 => ⟨S32x2048x256, .f32⟩
  | 121 => ⟨S32x2048x256, .f32⟩
  | 122 => ⟨S_, .f32⟩
  | 123 => ⟨S32x2048x256, .f32⟩
  | 124 => ⟨S32x2048x256, .f32⟩
  | 125 => ⟨S32x2048x256, .f32⟩
  | 126 => ⟨S_, .f32⟩
  | 127 => ⟨S32x2048, .f32⟩
  | _ => ⟨S32x2048x1024, .f32⟩

abbrev hbmTy0_2 (i : Nat) : BufTy := match i % 128 with
  | 0 => ⟨S32x2048x1, .f32⟩
  | 1 => ⟨S_, .f32⟩
  | 2 => ⟨S32x2048x1, .f32⟩
  | 3 => ⟨S32x2048x1, .f32⟩
  | 4 => ⟨S32x2048x256, .f32⟩
  | 5 => ⟨S32x2048x256, .f32⟩
  | 6 => ⟨S32x2048x256, .f32⟩
  | 7 => ⟨S_, .f32⟩
  | 8 => ⟨S32x2048, .f32⟩
  | 9 => ⟨S32x2048x1, .f32⟩
  | 10 => ⟨S_, .f32⟩
  | 11 => ⟨S32x2048x1, .f32⟩
  | 12 => ⟨S32x2048x1, .f32⟩
  | 13 => ⟨S32x2048x256, .f32⟩
  | 14 => ⟨S32x2048x256, .f32⟩
  | 15 => ⟨S_, .f32⟩
  | 16 => ⟨S32x2048x1, .f32⟩
  | 17 => ⟨S32x2048x1, .f32⟩
  | 18 => ⟨S32x2048x1, .f32⟩
  | 19 => ⟨S32x2048x256, .f32⟩
  | 20 => ⟨S32x2048x256, .f32⟩
  | 21 => ⟨S1x1x256, .f32⟩
  | 22 => ⟨S32x2048x256, .f32⟩
  | 23 => ⟨S32x2048x256, .f32⟩
  | 24 => ⟨S1x1x256, .f32⟩
  | 25 => ⟨S32x2048x256, .f32⟩
  | 26 => ⟨S32x2048x256, .f32⟩
  | 27 => ⟨S32x16x128x4x64, .f32⟩
  | 28 => ⟨S4x32x16x64x128, .f32⟩
  | 29 => ⟨S32x16x128x4x64, .f32⟩
  | 30 => ⟨S128x4, .f32⟩
  | 31 => ⟨S1x1x128x4x1, .f32⟩
  | 32 => ⟨S32x16x128x4x64, .f32⟩
  | 33 => ⟨S32x16x128x4x64, .f32⟩
  | 34 => ⟨S32x2048x256, .f32⟩
  | 35 => ⟨S32x2048x256, .f32⟩
  | 36 => ⟨S65536x2x4x2x16, .f32⟩
  | 37 => ⟨S65536x2x2x4x16, .f32⟩
  | 38 => ⟨S65536x256, .f32⟩
  | 39 => ⟨S65536x256, .bf16⟩
  | 40 => ⟨S65536x2x4x2x16, .f32⟩
  | 41 => ⟨S2x2x4x16x65536, .f32⟩
  | 42 => ⟨S256x65536, .f32⟩
  | 43 => ⟨S256x65536, .bf16⟩
  | 44 => ⟨S65536x256, .f32⟩
  | 45 => ⟨S65536x256, .bf16⟩
  | 46 => ⟨S65536x2x4x2x2x16, .f32⟩
  | 47 => ⟨S65536x4x2x2x2x16, .f32⟩
  | 48 => ⟨S65536x512, .f32⟩
  | 49 => ⟨S65536x512, .bf16⟩
  | 50 => ⟨S65536x2x2x2x16, .f32⟩
  | 51 => ⟨S2x2x2x16x65536, .f32⟩
  | 52 => ⟨S128x65536, .f32⟩
  | 53 => ⟨S128x65536, .bf16⟩
  | 54 => ⟨S65536x128, .f32⟩
  | 55 => ⟨S65536x128, .bf16⟩
  | 56 => ⟨S65536x256, .f32⟩
  | 57 => ⟨S65536x256, .bf16⟩
  | _ => ⟨S32x2048x1024, .f32⟩

abbrev hbmTy (i : Nat) : BufTy := match i / 128 with
  | 0 => hbmTy0_0 i
  | 1 => hbmTy0_1 i
  | 2 => hbmTy0_2 i
  | _ => ⟨S32x2048x1024, .f32⟩

abbrev bufTy : (tb : Table) → Fin (tcTables nBuf tb) → BufTy
  | .hbm, ⟨i, _⟩ => hbmTy i
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_14 : Ref sig .tc := ⟨.hbm, 130, rfl⟩
abbrev main_v107 : Ref sig .tc := ⟨.hbm, 131, rfl⟩
abbrev main_v108 : Ref sig .tc := ⟨.hbm, 132, rfl⟩
abbrev main_cst_15 : Ref sig .tc := ⟨.hbm, 133, rfl⟩
abbrev main_v109 : Ref sig .tc := ⟨.hbm, 134, rfl⟩
abbrev main_v110 : Ref sig .tc := ⟨.hbm, 135, rfl⟩
abbrev main_cst_16 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_cst_17 : Ref sig .tc := ⟨.hbm, 176, rfl⟩
abbrev main_v150 : Ref sig .tc := ⟨.hbm, 177, rfl⟩
abbrev main_v151 : Ref sig .tc := ⟨.hbm, 178, rfl⟩
abbrev main_cst_18 : Ref sig .tc := ⟨.hbm, 179, rfl⟩
abbrev main_v152 : Ref sig .tc := ⟨.hbm, 180, rfl⟩
abbrev main_v153 : Ref sig .tc := ⟨.hbm, 181, rfl⟩
abbrev main_cst_19 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_cst_20 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_cst_21 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_cst_22 : Ref sig .tc := ⟨.hbm, 230, rfl⟩
abbrev main_v199 : Ref sig .tc := ⟨.hbm, 231, rfl⟩
abbrev main_v200 : Ref sig .tc := ⟨.hbm, 232, rfl⟩
abbrev main_cst_23 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_cst_24 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_cst_25 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_cst_26 : Ref sig .tc := ⟨.hbm, 247, rfl⟩
abbrev main_v212 : Ref sig .tc := ⟨.hbm, 248, rfl⟩
abbrev main_v213 : Ref sig .tc := ⟨.hbm, 249, rfl⟩
abbrev main_cst_27 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_cst_28 : Ref sig .tc := ⟨.hbm, 254, rfl⟩
abbrev main_v217 : Ref sig .tc := ⟨.hbm, 255, rfl⟩
abbrev main_v218 : Ref sig .tc := ⟨.hbm, 256, rfl⟩
abbrev main_cst_29 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_cst_30 : Ref sig .tc := ⟨.hbm, 263, rfl⟩
abbrev main_v224 : Ref sig .tc := ⟨.hbm, 264, rfl⟩
abbrev main_v225 : Ref sig .tc := ⟨.hbm, 265, rfl⟩
abbrev main_cst_31 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_cst_32 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_v234 : Ref sig .tc := ⟨.hbm, 276, rfl⟩
abbrev main_v235 : Ref sig .tc := ⟨.hbm, 277, rfl⟩
abbrev main_v236 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_v243 : Ref sig .tc := ⟨.hbm, 285, rfl⟩
abbrev main_v244 : Ref sig .tc := ⟨.hbm, 286, rfl⟩
abbrev main_v245 : Ref sig .tc := ⟨.hbm, 287, rfl⟩
abbrev main_v246 : Ref sig .tc := ⟨.hbm, 288, rfl⟩
abbrev main_v247 : Ref sig .tc := ⟨.hbm, 289, rfl⟩
abbrev main_v248 : Ref sig .tc := ⟨.hbm, 290, rfl⟩
abbrev main_v249 : Ref sig .tc := ⟨.hbm, 291, rfl⟩
abbrev main_v250 : Ref sig .tc := ⟨.hbm, 292, rfl⟩
abbrev main_v251 : Ref sig .tc := ⟨.hbm, 293, rfl⟩
abbrev main_v252 : Ref sig .tc := ⟨.hbm, 294, rfl⟩
abbrev main_v253 : Ref sig .tc := ⟨.hbm, 295, rfl⟩
abbrev main_v254 : Ref sig .tc := ⟨.hbm, 296, rfl⟩
abbrev main_v255 : Ref sig .tc := ⟨.hbm, 297, rfl⟩
abbrev main_v256 : Ref sig .tc := ⟨.hbm, 298, rfl⟩
abbrev main_v257 : Ref sig .tc := ⟨.hbm, 299, rfl⟩
abbrev main_v258 : Ref sig .tc := ⟨.hbm, 300, rfl⟩
abbrev main_v259 : Ref sig .tc := ⟨.hbm, 301, rfl⟩
abbrev main_v260 : Ref sig .tc := ⟨.hbm, 302, rfl⟩
abbrev main_v261 : Ref sig .tc := ⟨.hbm, 303, rfl⟩
abbrev main_v262 : Ref sig .tc := ⟨.hbm, 304, rfl⟩
abbrev main_v263 : Ref sig .tc := ⟨.hbm, 305, rfl⟩
abbrev main_v264 : Ref sig .tc := ⟨.hbm, 306, rfl⟩
abbrev main_v265 : Ref sig .tc := ⟨.hbm, 307, rfl⟩
abbrev main_v266 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_v271 : Ref sig .tc := ⟨.hbm, 313, rfl⟩

abbrev nD : Nat := 1
abbrev τ : Topo := Topo.v7x

variable {F : FTy → Type} [FloatOps F]
-- ==== Gqa.lean ====
abbrev S32x2048x2x4x64 : Shape := ⟨5, ![32, 2048, 2, 4, 64]⟩
abbrev S32x2048x2x64 : Shape := ⟨4, ![32, 2048, 2, 64]⟩
abbrev S65536x2x4x2x2x16 : Shape := ⟨6, ![65536, 2, 4, 2, 2, 16]⟩
abbrev S65536x4x2x2x2x16 : Shape := ⟨6, ![65536, 4, 2, 2, 2, 16]⟩
abbrev S65536x512 : Shape := ⟨2, ![65536, 512]⟩
abbrev S65536x2x2x2x16 : Shape := ⟨5, ![65536, 2, 2, 2, 16]⟩
abbrev S2x2x2x16x65536 : Shape := ⟨5, ![2, 2, 2, 16, 65536]⟩
abbrev S128x65536 : Shape := ⟨2, ![128, 65536]⟩
abbrev S65536x128 : Shape := ⟨2, ![65536, 128]⟩
abbrev S1024x512 : Shape := ⟨2, ![1024, 512]⟩
abbrev S128x2048 : Shape := ⟨2, ![128, 2048]⟩
abbrev S2048x128 : Shape := ⟨2, ![2048, 128]⟩
abbrev S1024x2048 : Shape := ⟨2, ![1024, 2048]⟩
abbrev S2048x256 : Shape := ⟨2, ![2048, 256]⟩
abbrev S1024x128 : Shape := ⟨2, ![1024, 128]⟩
abbrev S1024 : Shape := ⟨1, ![1024]⟩
abbrev S1024x1 : Shape := ⟨2, ![1024, 1]⟩
abbrev S1024x256 : Shape := ⟨2, ![1024, 256]⟩

abbrev nBuf : Space → Nat
  | .hbm => 14
  | .vmem => 13
  | .smem => 0
  | _ => 0

abbrev bufTy : (tb : Table) → Fin (tcTables nBuf tb) → BufTy
  | .hbm, ⟨0, _⟩ => ⟨S32x2048x2x4x64, .f32⟩
  | .hbm, ⟨1, _⟩ => ⟨S32x2048x2x64, .f32⟩
  | .hbm, ⟨2, _⟩ => ⟨S32x2048x2x64, .f32⟩
  | .hbm, ⟨3, _⟩ => ⟨S65536x2x4x2x2x16, .f32⟩
  | .hbm, ⟨4, _⟩ => ⟨S65536x4x2x2x2x16, .f32⟩
  | .hbm, ⟨5, _⟩ => ⟨S65536x512, .f32⟩
  | .hbm, ⟨6, _⟩ => ⟨S65536x2x2x2x16, .f32⟩
  | .hbm, ⟨7, _⟩ => ⟨S2x2x2x16x65536, .f32⟩
  | .hbm, ⟨8, _⟩ => ⟨S128x65536, .f32⟩
  | .hbm, ⟨9, _⟩ => ⟨S65536x128, .f32⟩
  | .hbm, ⟨10, _⟩ => ⟨S65536x512, .bf16⟩
  | .hbm, ⟨11, _⟩ => ⟨S128x65536, .bf16⟩
  | .hbm, ⟨12, _⟩ => ⟨S65536x128, .bf16⟩
  | .hbm, ⟨13, _⟩ => ⟨S65536x512, .bf16⟩
  | .local _ .vmem, ⟨0, _⟩ => ⟨S1024x512, .bf16⟩
  | .local _ .vmem, ⟨1, _⟩ => ⟨S1024x512, .bf16⟩
  | .local _ .vmem, ⟨2, _⟩ => ⟨S128x2048, .bf16⟩
  | .local _ .vmem, ⟨3, _⟩ => ⟨S128x2048, .bf16⟩
  | .local _ .vmem, ⟨4, _⟩ => ⟨S2048x128, .bf16⟩
  | .local _ .vmem, ⟨5, _⟩ => ⟨S2048x128, .bf16⟩
  | .local _ .vmem, ⟨6, _⟩ => ⟨S1024x512, .bf16⟩
  | .local _ .vmem, ⟨7, _⟩ => ⟨S1024x512, .bf16⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x256, .bf16⟩
  | _, _ => ⟨S32x2048x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GqaIdeal.lean ====
variable {F : FTy → Type} [FloatOps F] [Named F]
def κ : String → Option EReal := fun
  | "b_scale" => some (((Real.log 2)⁻¹ * 8⁻¹ : ℝ) : EReal)
  | _ => none
-- ==== GqaRefIdeal.lean ====
abbrev S32x2048x2x4x64 : Shape := ⟨5, ![32, 2048, 2, 4, 64]⟩
abbrev S32x2048x2x64 : Shape := ⟨4, ![32, 2048, 2, 64]⟩
abbrev S32x2x2048x2048x4 : Shape := ⟨5, ![32, 2, 2048, 2048, 4]⟩
abbrev S32x2x4x2048x2048 : Shape := ⟨5, ![32, 2, 4, 2048, 2048]⟩
abbrev S_ : Shape := ⟨0, ![]⟩
abbrev S32x2x4x2048 : Shape := ⟨4, ![32, 2, 4, 2048]⟩
abbrev S32x2x4x2048x1 : Shape := ⟨5, ![32, 2, 4, 2048, 1]⟩
abbrev S32x2x64x4x2048 : Shape := ⟨5, ![32, 2, 64, 4, 2048]⟩
abbrev S32x2048x4x2x64 : Shape := ⟨5, ![32, 2048, 4, 2, 64]⟩
abbrev S65536x512 : Shape := ⟨2, ![65536, 512]⟩

abbrev nBuf : Space → Nat
  | .hbm => 26
  | .vmem => 0
  | .smem => 0
  | _ => 0

abbrev bufTy : (tb : Table) → Fin (tcTables nBuf tb) → BufTy
  | .hbm, ⟨0, _⟩ => ⟨S32x2048x2x4x64, .f32⟩
  | .hbm, ⟨1, _⟩ => ⟨S32x2048x2x64, .f32⟩
  | .hbm, ⟨2, _⟩ => ⟨S32x2048x2x64, .f32⟩
  | .hbm, ⟨3, _⟩ => ⟨S32x2x2048x2048x4, .f32⟩
  | .hbm, ⟨4, _⟩ => ⟨S32x2x4x2048x2048, .f32⟩
  | .hbm, ⟨5, _⟩ => ⟨S_, .f32⟩
  | .hbm, ⟨6, _⟩ => ⟨S32x2x4x2048x2048, .f32⟩
  | .hbm, ⟨7, _⟩ => ⟨S32x2x4x2048x2048, .f32⟩
  | .hbm, ⟨8, _⟩ => ⟨S_, .f32⟩
  | .hbm, ⟨9, _⟩ => ⟨S32x2x4x2048, .f32⟩
  | .hbm, ⟨10, _⟩ => ⟨S_, .f32⟩
  | .hbm, ⟨11, _⟩ => ⟨S32x2x4x2048, .f32⟩
  | .hbm, ⟨12, _⟩ => ⟨S32x2x4x2048, .f32⟩
  | .hbm, ⟨13, _⟩ => ⟨S32x2x4x2048x1, .f32⟩
  | .hbm, ⟨14, _⟩ => ⟨S32x2x4x2048x2048, .f32⟩
  | .hbm, ⟨15, _⟩ => ⟨S32x2x4x2048x2048, .f32⟩
  | .hbm, ⟨16, _⟩ => ⟨S32x2x4x2048x2048, .f32⟩
  | .hbm, ⟨17, _⟩ => ⟨S_, .f32⟩
  | .hbm, ⟨18, _⟩ => ⟨S32x2x4x2048, .f32⟩
  | .hbm, ⟨19, _⟩ => ⟨S32x2x4x2048x1, .f32⟩
  | .hbm, ⟨20, _⟩ => ⟨S32x2x4x2048x2048, .f32⟩
  | .hbm, ⟨21, _⟩ => ⟨S32x2x4x2048x2048, .f32⟩
  | .hbm, ⟨22, _⟩ => ⟨S32x2x64x4x2048, .f32⟩
  | .hbm, ⟨23, _⟩ => ⟨S32x2048x4x2x64, .f32⟩
  | .hbm, ⟨24, _⟩ => ⟨S65536x512, .f32⟩
  | .hbm, ⟨25, _⟩ => ⟨S65536x512, .bf16⟩
  | _, _ => ⟨S32x2048x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Post.lean ====
abbrev S32x2048x1024 : Shape := ⟨3, ![32, 2048, 1024]⟩
abbrev S32x2048x256 : Shape := ⟨3, ![32, 2048, 256]⟩
abbrev S32x2048x512 : Shape := ⟨3, ![32, 2048, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S65536x256 : Shape := ⟨2, ![65536, 256]⟩
abbrev S65536x2x4x64 : Shape := ⟨4, ![65536, 2, 4, 64]⟩
abbrev S65536x4x2x64 : Shape := ⟨4, ![65536, 4, 2, 64]⟩
abbrev S65536x512 : Shape := ⟨2, ![65536, 512]⟩
abbrev S_ : Shape := ⟨0, ![]⟩
abbrev S1024x1 : Shape := ⟨2, ![1024, 1]⟩
abbrev S256x1024 : Shape := ⟨2, ![256, 1024]⟩
abbrev S512x1024 : Shape := ⟨2, ![512, 1024]⟩
abbrev S65536x1024 : Shape := ⟨2, ![65536, 1024]⟩
abbrev S1x1024 : Shape := ⟨2, ![1, 1024]⟩
abbrev S1024x256 : Shape := ⟨2, ![1024, 256]⟩
abbrev S1024x512 : Shape := ⟨2, ![1024, 512]⟩
abbrev S256x256 : Shape := ⟨2, ![256, 256]⟩
abbrev S256x512 : Shape := ⟨2, ![256, 512]⟩
abbrev S256 : Shape := ⟨1, ![256]⟩
abbrev S256x1 : Shape := ⟨2, ![256, 1]⟩
abbrev S256x2816 : Shape := ⟨2, ![256, 2816]⟩

abbrev nBuf : Space → Nat
  | .hbm => 41
  | .vmem => 20
  | .smem => 0
  | _ => 0

abbrev bufTy : (tb : Table) → Fin (tcTables nBuf tb) → BufTy
  | .hbm, ⟨0, _⟩ => ⟨S32x2048x1024, .f32⟩
  | .hbm, ⟨1, _⟩ => ⟨S32x2048x256, .f32⟩
  | .hbm, ⟨2, _⟩ => ⟨S32x2048x512, .f32⟩
  | .hbm, ⟨3, _⟩ => ⟨S32x2048x256, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S1024, .f32⟩
  | .hbm, ⟨12, _⟩ => ⟨S1024, .i32⟩
  | .hbm, ⟨13, _⟩ => ⟨S1024, .i1⟩
  | .hbm, ⟨14, _⟩ => ⟨S65536x256, .f32⟩
  | .hbm, ⟨15, _⟩ => ⟨S65536x256, .bf16⟩
  | .hbm, ⟨16, _⟩ => ⟨S65536x2x4x64, .f32⟩
  | .hbm, ⟨17, _⟩ => ⟨S65536x4x2x64, .f32⟩
  | .hbm, ⟨18, _⟩ => ⟨S65536x512, .f32⟩
  | .hbm, ⟨19, _⟩ => ⟨S65536x512, .bf16⟩
  | .hbm, ⟨20, _⟩ => ⟨S65536x256, .f32⟩
  | .hbm, ⟨21, _⟩ => ⟨S65536x256, .bf16⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024x1024, .f32⟩
  | .hbm, ⟨28, _⟩ => ⟨S1024x1024, .bf16⟩
  | .hbm, ⟨29, _⟩ => ⟨S256x1024, .bf16⟩
  | .hbm, ⟨30, _⟩ => ⟨S512x1024, .bf16⟩
  | .hbm, ⟨31, _⟩ => ⟨S256x1024, .bf16⟩
  | .hbm, ⟨32, _⟩ => ⟨S65536x1024, .f32⟩
  | .hbm, ⟨33, _⟩ => ⟨S1x1024, .f32⟩
  | .hbm, ⟨34, _⟩ => ⟨S1x1024, .f32⟩
  | .hbm, ⟨35, _⟩ => ⟨S1024x2816, .bf16⟩
  | .hbm, ⟨36, _⟩ => ⟨S1024x2816, .bf16⟩
  | .hbm, ⟨37, _⟩ => ⟨S2816x1024, .bf16⟩
  | .hbm, ⟨38, _⟩ => ⟨S1x1024, .f32⟩
  | .hbm, ⟨39, _⟩ => ⟨S1x1024, .f32⟩
  | .hbm, ⟨40, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x512, .bf16⟩
  | .local _ .vmem, ⟨5, _⟩ => ⟨S1024x512, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S512x1024, .bf16⟩
  | .local _ .vmem, ⟨10, _⟩ => ⟨S256x1024, .bf16⟩
  | .local _ .vmem, ⟨11, _⟩ => ⟨S1x1024, .f32⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x1024, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_c_0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== PostRefIdeal.lean ====
abbrev S32x2048x1024 : Shape := ⟨3, ![32, 2048, 1024]⟩
abbrev S32x2048x256 : Shape := ⟨3, ![32, 2048, 256]⟩
abbrev S32x2048x512 : Shape := ⟨3, ![32, 2048, 512]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2816 : Shape := ⟨3, ![32, 2048, 2816]⟩
abbrev S65536x1024 : Shape := ⟨2, ![65536, 1024]⟩

abbrev nBuf : Space → Nat
  | .hbm => 94
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x256, .f32⟩
  | .hbm, ⟨2, _⟩ => ⟨S32x2048x512, .f32⟩
  | .hbm, ⟨3, _⟩ => ⟨S32x2048x256, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S1024, .f32⟩
  | .hbm, ⟨12, _⟩ => ⟨S32x2048x1024, .f32⟩
  | .hbm, ⟨13, _⟩ => ⟨S32x2048x1024, .f32⟩
  | .hbm, ⟨14, _⟩ => ⟨S_, .f32⟩
  | .hbm, ⟨15, _⟩ => ⟨S32x2048x1024, .f32⟩
  | .hbm, ⟨16, _⟩ => ⟨S32x2048x1024, .f32⟩
  | .hbm, ⟨17, _⟩ => ⟨S32x2048x1024, .f32⟩
  | .hbm, ⟨18, _⟩ => ⟨S_, .f32⟩
  | .hbm, ⟨19, _⟩ => ⟨S32x2048, .f32⟩
  | .hbm, ⟨20, _⟩ => ⟨S32x2048x1, .f32⟩
  | .hbm, ⟨21, _⟩ => ⟨S_, .f32⟩
  | .hbm, ⟨22, _⟩ => ⟨S32x2048x1, .f32⟩
  | .hbm, ⟨23, _⟩ => ⟨S32x2048x1, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | .hbm, ⟨27, _⟩ => ⟨S_, .f32⟩
  | .hbm, ⟨28, _⟩ => ⟨S32x2048, .f32⟩
  | .hbm, ⟨29, _⟩ => ⟨S32x2048x1, .f32⟩
  | .hbm, ⟨30, _⟩ => ⟨S_, .f32⟩
  | .hbm, ⟨31, _⟩ => ⟨S32x2048x1, .f32⟩
  | .hbm, ⟨32, _⟩ => ⟨S32x2048x1, .f32⟩
  | .hbm, ⟨33, _⟩ => ⟨S32x2048x1024, .f32⟩
  | .hbm, ⟨34, _⟩ => ⟨S32x2048x1024, .f32⟩
  | .hbm, ⟨35, _⟩ => ⟨S_, .f32⟩
  | .hbm, ⟨36, _⟩ => ⟨S32x2048x1, .f32⟩
  | .hbm, ⟨37, _⟩ => ⟨S32x2048x1, .f32⟩
  | .hbm, ⟨38, _⟩ => ⟨S32x2048x1, .f32⟩
  | .hbm, ⟨39, _⟩ => ⟨S32x2048x1024, .f32⟩
  | .hbm, ⟨40, _⟩ => ⟨S32x2048x1024, .f32⟩
  | .hbm, ⟨41, _⟩ => ⟨S1x1x1024, .f32⟩
  | .hbm, ⟨42, _⟩ => ⟨S32x2048x1024, .f32⟩
  | .hbm, ⟨43, _⟩ => ⟨S32x2048x1024, .f32⟩
  | .hbm, ⟨44, _⟩ => ⟨S1x1x1024, .f32⟩
  | .hbm, ⟨45, _⟩ => ⟨S32x2048x1024, .f32⟩
  | .hbm, ⟨46, _⟩ => ⟨S32x2048x1024, .f32⟩
  | .hbm, ⟨47, _⟩ => ⟨S32x2048x2816, .f32⟩
  | .hbm, ⟨48, _⟩ => ⟨S32x2048x2816, .f32⟩
  | .hbm, ⟨49, _⟩ => ⟨S32x2048x2816, .f32⟩
  | .hbm, ⟨50, _⟩ => ⟨S_, .f32⟩
  | .hbm, ⟨51, _⟩ => ⟨S32x2048x2816, .f32⟩
  | .hbm, ⟨52, _⟩ => ⟨S32x2048x2816, .f32⟩
  | .hbm, ⟨53, _⟩ => ⟨S_, .f32⟩
  | .hbm, ⟨54, _⟩ => ⟨S32x2048x2816, .f32⟩
  | .hbm, ⟨55, _⟩ => ⟨S32x2048x2816, .f32⟩
  | .hbm, ⟨56, _⟩ => ⟨S32x2048x2816, .f32⟩
  | .hbm, ⟨57, _⟩ => ⟨S32x2048x2816, .f32⟩
  | .hbm, ⟨58, _⟩ => ⟨S32x2048x2816, .f32⟩
  | .hbm, ⟨59, _⟩ => ⟨S32x2048x1024, .f32⟩
  | .hbm, ⟨60, _⟩ => ⟨S_, .f32⟩
  | .hbm, ⟨61, _⟩ => ⟨S32x2048x1024, .f32⟩
  | .hbm, ⟨62, _⟩ => ⟨S32x2048x1024, .f32⟩
  | .hbm, ⟨63, _⟩ => ⟨S32x2048x1024, .f32⟩
  | .hbm, ⟨64, _⟩ => ⟨S_, .f32⟩
  | .hbm, ⟨65, _⟩ => ⟨S32x2048, .f32⟩
  | .hbm, ⟨66, _⟩ => ⟨S32x2048x1, .f32⟩
  | .hbm, ⟨67, _⟩ => ⟨S_, .f32⟩
  | .hbm, ⟨68, _⟩ => ⟨S32x2048x1, .f32⟩
  | .hbm, ⟨69, _⟩ => ⟨S32x2048x1, .f32⟩
  | .hbm, ⟨70, _⟩ => ⟨S32x2048x1024, .f32⟩
  | .hbm, ⟨71, _⟩ => ⟨S32x2048x1024, .f32⟩
  | .hbm, ⟨72, _⟩ => ⟨S32x2048x1024, .f32⟩
  | .hbm, ⟨73, _⟩ => ⟨S_, .f32⟩
  | .hbm, ⟨74, _⟩ => ⟨S32x2048, .f32⟩
  | .hbm, ⟨75, _⟩ => ⟨S32x2048x1, .f32⟩
  | .hbm, ⟨76, _⟩ => ⟨S_, .f32⟩
  | .hbm, ⟨77, _⟩ => ⟨S32x2048x1, .f32⟩
  | .hbm, ⟨78, _⟩ => ⟨S32x2048x1, .f32⟩
  | .hbm, ⟨79, _⟩ => ⟨S32x2048x1024, .f32⟩
  | .hbm, ⟨80, _⟩ => ⟨S32x2048x1024, .f32⟩
  | .hbm, ⟨81, _⟩ => ⟨S_, .f32⟩
  | .hbm, ⟨82, _⟩ => ⟨S32x2048x1, .f32⟩
  | .hbm, ⟨83, _⟩ => ⟨S32x2048x1, .f32⟩
  | .hbm, ⟨84, _⟩ => ⟨S32x2048x1, .f32⟩
  | .hbm, ⟨85, _⟩ => ⟨S32x2048x1024, .f32⟩
  | .hbm, ⟨86, _⟩ => ⟨S32x2048x1024, .f32⟩
  | .hbm, ⟨87, _⟩ => ⟨S1x1x1024, .f32⟩
  | .hbm, ⟨88, _⟩ => ⟨S32x2048x1024, .f32⟩
  | .hbm, ⟨89, _⟩ => ⟨S32x2048x1024, .f32⟩
  | .hbm, ⟨90, _⟩ => ⟨S1x1x1024, .f32⟩
  | .hbm, ⟨91, _⟩ => ⟨S32x2048x1024, .f32⟩
  | .hbm, ⟨92, _⟩ => ⟨S32x2048x1024, .f32⟩
  | .hbm, ⟨93, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_cst_9 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_10 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩

abbrev nD : Nat := 1
abbrev τ : Topo := Topo.v7x

variable {F : FTy → Type} [FloatOps F]
-- ==== Proof.GqaRow.lean ====
/- The grouped-query attention's rows: what the body of the call computes for each unit of heads, row by row. -/
module

public import proofs.«01_k».proof.Proof.Gen.GqaIdeal.Skeleton
public import Idealize.ShloMosaic.Lib.Pointwise
public import Idealize.ShloMosaic.Lib.Claim
public import Idealize.ShloMosaic.Lib.Pipeline.ValueKit

@[expose] public section

set_option maxRecDepth 16384

noncomputable section

namespace Cert.GqaIdeal.Row

open Cert.GqaIdeal Cert.GqaIdeal.Gen Idealize.ShloMosaic Idealize.ShloMosaic.TcCoe Idealize.SL.Sem

/-- The scale of the scores in powers of two: one over eight times the natural logarithm of two. -/
def scale : EReal := (((Real.log 2)⁻¹ * 8⁻¹ : ℝ) : EReal)

/-- One head's scores for a row of queries: of a group's 128 lanes only the head's own count. -/
def score (s : ℕ) (q : Fin 128 → EReal) (k : Fin 128 → Fin 2048 → EReal) (n : Fin 2048) : EReal :=
  ∑ l, if l.val % 64 / 32 = s then q l * scale * k l n else 0

/-- The largest of a row's scores. -/
def top (f : Fin 2048 → EReal) : EReal := Finset.univ.fold max (Ideal.ofBits .f32 4286578688#32) f

/-- The weighted values over the sum of the weights, the weights powers of two of the scores less the largest. -/
def attend (f v : Fin 2048 → EReal) : EReal :=
  Ideal.div (∑ n, Ideal.exp2 (f n - top f) * v n) (∑ n, Ideal.exp2 (f n - top f) * 1)

/-- The body's result for one of two heads in a group of 128 lanes. -/
def unit (mask : IVec S1024x128 1) (q : Vec Ideal S1024x128 .bf16) (kt : Vec Ideal S128x2048 .bf16)
    (v1 : Vec Ideal S2048x256 .bf16) : FVec Ideal S1024x128 .f32 :=
  k0_pay13 (k0_pay12 (k0_pay11 mask q kt)) v1

/-- The values beside a block of ones: what the first point of a batch keeps. -/
def kept (v : Vec Ideal S2048x128 .bf16) : Vec Ideal S2048x256 .bf16 := fun j =>
  if h : (j 1).val < 128 then v (ix2 (j 0) ⟨(j 1).val, h⟩) else (1 : EReal)

/-- A lane is its group's first head's when it lies in the first half of its 64. -/
theorem first_at (r : Fin 1024) (l : Fin 128) : k0_pay2 (ix2 r l) = if l.val % 64 / 32 = 0 then 1#1 else 0#1 := by
  pointwise [k0_pay2]
  revert l
  decide +kernel

/-- The other lanes are the second head's. -/
theorem second_at (r : Fin 1024) (l : Fin 128) : k0_pay5 (ix2 r l) = if l.val % 64 / 32 = 1 then 1#1 else 0#1 := by
  pointwise [k0_pay5]
  rw [first_at]
  revert l
  decide +kernel

/-- The lanes whose values are the first head's. -/
theorem lo_at (r : Fin 1024) (l : Fin 128) : k0_pay1 (ix2 r l) = if l.val / 64 = 0 then 1#1 else 0#1 := by
  pointwise [k0_pay1]
  revert l
  decide +kernel

/-- A unit at a row and a column, where its mask marks the lanes of head `s`. -/
theorem unit_at (s : ℕ) (mask : IVec S1024x128 1) (q : Vec Ideal S1024x128 .bf16) (kt : Vec Ideal S128x2048 .bf16)
    (v : Vec Ideal S2048x128 .bf16) (hm : ∀ r l, mask (ix2 r l) = if l.val % 64 / 32 = s then 1#1 else 0#1)
    (r : Fin 1024) (l : Fin 128) :
    unit mask q kt (kept v) (ix2 r l)
      = attend (score s (fun l => q (ix2 r l)) fun l n => kt (ix2 l n)) fun n => v (ix2 n l) := by
  pointwise [unit, k0_pay13, k0_pay12, k0_pay11]
  have hk : (Named.named (F := Ideal) (φ := .f32) κ "b_scale" 1043900987#32 : EReal) = scale := rfl
  have hs : ∀ n : Fin 2048, (∑ x, Scalar.select (mask (ix2 r x)) (q (ix2 r x) * scale * kt (ix2 x n)) 0 : EReal)
      = score s (fun l => q (ix2 r l)) (fun l n => kt (ix2 l n)) n := fun n => by
    refine Finset.sum_congr rfl fun l _ => ?_
    rw [hm]
    split <;> rfl
  have hv : ∀ x : Fin 2048, ∀ h, kept v (ix2 x ⟨l.val, h⟩) = v (ix2 x l) := fun x h =>
    dif_pos (show l.val < 128 from l.isLt)
  have ho : ∀ x : Fin 2048, ∀ h, kept v (ix2 x ⟨128 + l.val, h⟩) = (1 : EReal) := fun x h =>
    dif_neg (show ¬ 128 + l.val < 128 by omega)
  simp only [hk, hs, hv, ho]
  rfl

/-- One group's 128 columns of the result: the first head's in its lanes, the second head's in the others. -/
def group (q : Vec Ideal S1024x128 .bf16) (kt : Vec Ideal S128x2048 .bf16) (v1 : Vec Ideal S2048x256 .bf16) :
    FVec Ideal S1024x128 .bf16 :=
  k0_pay35 k0_pay1 (unit k0_pay2 q kt v1) (unit k0_pay5 q kt v1)

/-- A group's columns at a row and a column. -/
theorem group_at (q : Vec Ideal S1024x128 .bf16) (kt : Vec Ideal S128x2048 .bf16) (v : Vec Ideal S2048x128 .bf16)
    (r : Fin 1024) (l : Fin 128) :
    group q kt (kept v) (ix2 r l)
      = attend (score (l.val / 64) (fun l => q (ix2 r l)) fun l n => kt (ix2 l n)) fun n => v (ix2 n l) := by
  pointwise [group, k0_pay35]
  rw [lo_at, unit_at 0 _ _ _ _ first_at, unit_at 1 _ _ _ _ second_at]
  by_cases h : l.val / 64 = 0
  · rw [if_pos h, h]; rfl
  · rw [if_neg h, show l.val / 64 = 1 by omega]; rfl

/-- The values and the ones, as the first point of a batch stores them. -/
theorem kept_canon (v : Vec Ideal S2048x128 .bf16) :
    View.canon [⟨Rect.unit ![0, 128] ![2048, 128] inb_S2048x256_S2048x128_0_128, (k0_pay4 (F := Ideal))⟩,
            ⟨Rect.unit ![0, 0] ![2048, 128] inb_S2048x256_S2048x128_0_0, k0_pay3 v⟩] = kept v := by
  funext j
  idx_vars j
  canon_tiles x h
  all_goals
    idx_vars x
    pointwise [k0_pay3, k0_pay4, kept]
  · rw [dif_neg (by omega)]
  · rw [dif_pos (by omega)]
    exact congrArg v (congrArg₂ ix2 (Fin.ext h0.symm) (Fin.ext h1.symm))

end Cert.GqaIdeal.Row

end
-- ==== Proof.GqaMath.lean ====
/- Softmax with powers of two and the division last, against softmax with exponentials and the division first. -/
module

public import proofs.«01_k».proof.Proof.GqaRow

@[expose] public section

set_option maxRecDepth 16384

noncomputable section

namespace Cert.GqaMath

open Idealize.ShloMosaic Cert.GqaIdeal.Row

/-- The word of minus infinity. -/
theorem neg_inf : Ideal.ofBits .f32 0xFF800000#32 = ⊥ := by
  simp [Ideal.ofBits, Ideal.ieee]

/-- The word of infinity. -/
theorem pos_inf : Ideal.ofBits .f32 0x7F800000#32 = ⊤ := by
  simp [Ideal.ofBits, Ideal.ieee]

/-- The word of an eighth. -/
theorem eighth : Ideal.ofBits .f32 0x3E000000#32 = ((8⁻¹ : ℝ) : EReal) := by
  simp [Ideal.ofBits, Ideal.ieee]
  refine (EReal.coe_mul _ _).symm.trans (congrArg _ ?_)
  norm_num

/-- The real sum, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum of extended reals. -/
theorem sum_mul {ι : Type*} (s : Finset ι) (f : ι → EReal) (a : ℝ) (ha : 0 ≤ a) :
    (∑ i ∈ s, f i) * (a : EReal) = ∑ i ∈ s, f i * (a : EReal) := by
  classical
  induction s using Finset.induction_on with
  | empty => simp
  | insert j s hj ih =>
    rw [Finset.sum_insert hj, Finset.sum_insert hj,
      EReal.right_distrib_of_nonneg_of_ne_top (EReal.coe_nonneg.2 ha) (EReal.coe_ne_top a), ih]

/-- The largest of finitely many reals, from minus infinity. -/
theorem fold_coe (r : Fin 2048 → ℝ) (n0 : Fin 2048) (h : ∀ n, r n ≤ r n0) :
    Finset.univ.fold max (Ideal.ofBits .f32 0xFF800000#32) (fun n => (r n : EReal)) = (r n0 : EReal) := by
  rw [neg_inf]
  refine le_antisymm ((Finset.fold_max_le _).2 ⟨bot_le, fun n _ => EReal.coe_le_coe_iff.2 (h n)⟩) ?_
  exact (Finset.le_fold_max _).2 (Or.inr ⟨n0, Finset.mem_univ _, le_rfl⟩)

/-- The call's weighted values over the sum of its weights are the reference's sum of values times normalized
    exponentials, where the scores are real. -/
theorem attend_eq (r : Fin 2048 → ℝ) (v : Fin 2048 → EReal) (f S : Fin 2048 → EReal)
    (hf : ∀ n, f n = ((r n * (Real.log 2)⁻¹ : ℝ) : EReal)) (hS : ∀ n, S n = (r n : EReal)) :
    attend f v = ∑ n, v n * Ideal.div
      (Ideal.exp (S n - max (Ideal.ofBits .f32 0xFF800000#32) (Finset.univ.fold max (Ideal.ofBits .f32 0xFF800000#32) S)))
      (∑ n, Ideal.exp (S n - max (Ideal.ofBits .f32 0xFF800000#32)
        (Finset.univ.fold max (Ideal.ofBits .f32 0xFF800000#32) S))) := by
  obtain ⟨n0, hn0⟩ := Finite.exists_max r
  have hlog : 0 < Real.log 2 := Real.log_pos (by norm_num)
  obtain rfl : f = fun n => ((r n * (Real.log 2)⁻¹ : ℝ) : EReal) := funext hf
  obtain rfl : S = fun n => (r n : EReal) := funext hS
  have hE : ∀ n, Ideal.exp ((r n : EReal) - max (Ideal.ofBits .f32 0xFF800000#32)
      (Finset.univ.fold max (Ideal.ofBits .f32 0xFF800000#32) fun n => (r n : EReal)))
      = ((Real.exp (r n - r n0) : ℝ) : EReal) := fun n => by
    rw [fold_coe r n0 hn0, neg_inf, max_eq_right bot_le, ← EReal.coe_sub, Ideal.exp_coe]
  have hE2 : ∀ n, Ideal.exp2 (((r n * (Real.log 2)⁻¹ : ℝ) : EReal) - top fun n => ((r n * (Real.log 2)⁻¹ : ℝ) : EReal))
      = ((Real.exp (r n - r n0) : ℝ) : EReal) := fun n => by
    rw [top, fold_coe (fun n => r n * (Real.log 2)⁻¹) n0 fun n => mul_le_mul_of_nonneg_right (hn0 n) (inv_nonneg.2 hlog.le),
      ← EReal.coe_sub, Ideal.exp2_coe]
    congr 1
    show (2 : ℝ) ^ (r n * (Real.log 2)⁻¹ - r n0 * (Real.log 2)⁻¹) = _
    rw [Real.rpow_def_of_pos (by norm_num)]
    congr 1
    field_simp
  have hL : 0 < ∑ n, Real.exp (r n - r n0) := Finset.sum_pos (fun n _ => Real.exp_pos _) ⟨n0, Finset.mem_univ _⟩
  unfold attend
  simp only [hE, hE2, mul_one, ← coe_sum]
  rw [Ideal.div_coe hL.ne', sum_mul _ _ _ (one_div_nonneg.2 hL.le)]
  refine Finset.sum_congr rfl fun n _ => ?_
  rw [Ideal.div_coe hL.ne']
  rw [mul_comm (v n), mul_assoc, mul_assoc, mul_comm (v n)]

end Cert.GqaMath

end
-- ==== Proof.GqaRef.lean ====
/- The reference of the grouped-query attention at an index. -/
module

public import proofs.«01_k».proof.Proof.Gen.GqaRefIdeal.Run
public import Idealize.ShloMosaic.Lib.Pointwise

@[expose] public section

set_option maxRecDepth 16384

noncomputable section

namespace Cert.GqaRefIdeal.Row

open Cert.GqaRefIdeal Cert.GqaRefIdeal.Gen Idealize.ShloMosaic Idealize.ShloMosaic.TcCoe Idealize.SL.Sem

/-- The scaled scores. -/
def scores (x0 : FVec Ideal S32x2048x2x4x64 .f32) (x1 : FVec Ideal S32x2048x2x64 .f32) :
    FVec Ideal S32x2x4x2048x2048 .f32 :=
  mulf (transpose S32x2x4x2048x2048 [0, 1, 4, 3, 2]
      (Host.dotGeneral dot_S32x2048x2x64_S32x2048x2x4x64_S32x2x2048x2048x4_3_4_1_13_02_02 none x1 x0)
      transposes_S32x2x2048x2048x4_S32x2x4x2048x2048_0_1_4_3_2)
    (broadcastInDim S32x2x4x2048x2048 ![] bcast_S_S32x2x4x2048x2048 (constant S_ .f32 0x3E000000#32))

/-- Each row's largest score. -/
def tops (s : FVec Ideal S32x2x4x2048x2048 .f32) : FVec Ideal S32x2x4x2048 .f32 :=
  Host.reduce FloatOps.maximumf s (constant S_ .f32 0xFF800000#32)
          reducesTo_S32x2x4x2048x2048_S32x2x4x2048_d4 h_S_

/-- A number for each row, beside every score of the row. -/
def wide (t : FVec Ideal S32x2x4x2048 .f32) : FVec Ideal S32x2x4x2048x2048 .f32 :=
  broadcastInDim S32x2x4x2048x2048 ![0, 1, 2, 3, 4] bcast_S32x2x4x2048x1_S32x2x4x2048x2048_0_1_2_3_4
    (broadcastInDim S32x2x4x2048x1 ![0, 1, 2, 3] bcast_S32x2x4x2048_S32x2x4x2048x1_0_1_2_3 t)

/-- The largest scores, no less than minus infinity. -/
def above (t : FVec Ideal S32x2x4x2048 .f32) : FVec Ideal S32x2x4x2048 .f32 :=
  maximumf (broadcastInDim S32x2x4x2048 ![] bcast_S_S32x2x4x2048 (constant S_ .f32 0xFF800000#32)) t

/-- The exponentials of the scores less their row's largest. -/
def exps (s : FVec Ideal S32x2x4x2048x2048 .f32) : FVec Ideal S32x2x4x2048x2048 .f32 :=
  Host.exp (subf s (wide (above (tops s))))

/-- The weights times the values, a row for each position. -/
def result (e : FVec Ideal S32x2x4x2048x2048 .f32) (x2 : FVec Ideal S32x2048x2x64 .f32) : FVec Ideal S65536x512 .bf16 :=
  truncf .bf16 (shapeCast _ (transpose S32x2048x4x2x64 [0, 4, 3, 1, 2]
    (Host.dotGeneral dot_S32x2048x2x64_S32x2x4x2048x2048_S32x2x64x4x2048_1_4_3_23_02_01 none x2
      (Host.divf e (broadcastInDim S32x2x4x2048x2048 ![0, 1, 2, 3, 4] bcast_S32x2x4x2048x1_S32x2x4x2048x2048_0_1_2_3_4
        (broadcastInDim S32x2x4x2048x1 ![0, 1, 2, 3] bcast_S32x2x4x2048_S32x2x4x2048x1_0_1_2_3
          (Host.reduceAdd e (constant S_ .f32 0x00000000#32) reducesTo_S32x2x4x2048x2048_S32x2x4x2048_d4 h_S_)))))
    transposes_S32x2x64x4x2048_S32x2048x4x2x64_0_4_3_1_2) shapeCasts_S32x2048x4x2x64_S65536x512) bitsLt_bf16_f32

/-- A score: the product of a key's and a query's rows, an eighth of it. -/
theorem scores_at (x0 : FVec Ideal S32x2048x2x4x64 .f32) (x1 : FVec Ideal S32x2048x2x64 .f32)
    (b : Fin 32) (h : Fin 2) (g : Fin 4) (s n : Fin 2048) :
    scores x0 x1 (ix5 b h g s n)
      = (∑ d : Fin 64, x1 (ix4 b n h d) * x0 (ix5 b s h g d) : EReal) * Ideal.ofBits .f32 0x3E000000#32 := by
  pointwise [scores]

/-- A row's largest score. -/
theorem tops_at (f : FVec Ideal S32x2x4x2048x2048 .f32) (b : Fin 32) (h : Fin 2) (g : Fin 4) (s : Fin 2048) :
    tops f (ix4 b h g s)
      = Finset.univ.fold max (Ideal.ofBits .f32 0xFF800000#32) fun n : Fin 2048 => (f (ix5 b h g s n) : EReal) := by
  pointwise [tops]

/-- A row's number stands beside each of its scores. -/
theorem wide_at (t : FVec Ideal S32x2x4x2048 .f32) (b : Fin 32) (h : Fin 2) (g : Fin 4) (s n : Fin 2048) :
    wide t (ix5 b h g s n) = t (ix4 b h g s) := by
  pointwise [wide]

/-- The largest against minus infinity. -/
theorem above_at (t : FVec Ideal S32x2x4x2048 .f32) (j : S32x2x4x2048.Idx) :
    above t j = max (Ideal.ofBits .f32 0xFF800000#32) (t j : EReal) := rfl

/-- An exponential. -/
theorem exps_at (f : FVec Ideal S32x2x4x2048x2048 .f32) (b : Fin 32) (h : Fin 2) (g : Fin 4) (s n : Fin 2048) :
    exps f (ix5 b h g s n) = Ideal.exp ((f (ix5 b h g s n) : EReal)
      - max (Ideal.ofBits .f32 0xFF800000#32) (tops f (ix4 b h g s) : EReal)) := by
  refine (show _ = Ideal.exp ((f (ix5 b h g s n) : EReal) - (wide (above (tops f)) (ix5 b h g s n) : EReal)) from rfl).trans ?_
  rw [wide_at, above_at]

/-- An element of the result: columns are in the order (group, key head, 64). -/
theorem result_at (e : FVec Ideal S32x2x4x2048x2048 .f32) (x2 : FVec Ideal S32x2048x2x64 .f32)
    (i : Fin 65536) (k : Fin 512) :
    result e x2 (ix2 i k) = (∑ n : Fin 2048,
      (x2 (ix4 ⟨i.val / 2048, by omega⟩ n ⟨k.val / 64 % 2, by omega⟩ ⟨k.val % 64, by omega⟩) : EReal) *
      Ideal.div (e (ix5 ⟨i.val / 2048, by omega⟩ ⟨k.val / 64 % 2, by omega⟩ ⟨k.val / 128, by omega⟩
          ⟨i.val % 2048, by omega⟩ n))
        (∑ n : Fin 2048, (e (ix5 ⟨i.val / 2048, by omega⟩ ⟨k.val / 64 % 2, by omega⟩ ⟨k.val / 128, by omega⟩
          ⟨i.val % 2048, by omega⟩ n) : EReal)) : EReal) := by
  pointwise [result]

end Cert.GqaRefIdeal.Row

end
-- ==== Proof.GqaHost.lean ====
/- The arrays the host prepares for the grouped-query attention, element by element over the arguments. -/
module

public import proofs.«01_k».proof.Proof.Gen.GqaIdeal.Value
public import Idealize.ShloMosaic.Lib.Pointwise
public import Idealize.ShloMosaic.Lib.Claim
public import Idealize.ShloMosaic.Lib.Pipeline.ValueKit

@[expose] public section

set_option maxRecDepth 16384

noncomputable section

namespace Cert.GqaIdeal.Row

open Cert.GqaIdeal Cert.GqaIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The key head of a lane: lanes are in the order (half, head, axis, 16). -/
def headOf (l : Fin 128) : Fin 2 := ⟨l.val % 64 / 32, by omega⟩

/-- The place of a lane among its head's 64 numbers, which are in the order (axis, half, 16). -/
def placeOf (l : Fin 128) : Fin 64 := ⟨l.val % 32 / 16 * 32 + l.val / 64 * 16 + l.val % 16, by omega⟩

/-- A sum over a head's lanes is the sum over its 64 places. -/
theorem sum_lanes {M : Type} [AddCommMonoid M] (h : Fin 2) (f : Fin 64 → M) :
    (∑ l : Fin 128, if l.val % 64 / 32 = h.val then f (placeOf l) else 0) = ∑ d, f d := by
  rw [← Finset.sum_filter]
  refine Finset.sum_nbij' placeOf
    (fun d : Fin 64 => (⟨d.val % 32 / 16 * 64 + h.val * 32 + d.val / 32 * 16 + d.val % 16, by omega⟩ : Fin 128))
    (fun _ _ => Finset.mem_univ _) (fun d _ => ?_) (fun l hl => ?_) (fun d _ => ?_) (fun _ _ => rfl)
  · refine Finset.mem_filter.2 ⟨Finset.mem_univ _, ?_⟩
    revert h d
    decide +kernel
  · have := (Finset.mem_filter.1 hl).2
    exact Fin.ext (by simp only [placeOf]; omega)
  · revert h d
    decide +kernel

/-- The queries' rows: column `128 g + l` is group `g`'s lane `l`. -/
theorem q_at (b : Fin 32) (s : Fin 2048) (g : Fin 4) (l : Fin 128) (i : Fin 65536) (k : Fin 512)
    (hi : i.val = b.val * 2048 + s.val) (hk : k.val = g.val * 128 + l.val) :
    V m c main_v7 (ix2 i k) = m ((c : Thread nD τ).loc main_arg0) (ix5 b s (headOf l) g (placeOf l)) := by
  entry_read
  pointwise
  blk_ext [headOf, placeOf]

/-- The keys, transposed. -/
theorem k_at (b : Fin 32) (s : Fin 2048) (l : Fin 128) (i : Fin 65536) (hi : i.val = b.val * 2048 + s.val) :
    V m c main_v8 (ix2 l i) = m ((c : Thread nD τ).loc main_arg1) (ix4 b s (headOf l) (placeOf l)) := by
  entry_read
  pointwise
  blk_ext [headOf, placeOf]

/-- The values' rows. -/
theorem v_at (b : Fin 32) (s : Fin 2048) (l : Fin 128) (i : Fin 65536) (hi : i.val = b.val * 2048 + s.val) :
    V m c main_v9 (ix2 i l)
      = m ((c : Thread nD τ).loc main_arg2) (ix4 b s ⟨l.val / 64, by omega⟩ ⟨l.val % 64, by omega⟩) := by
  entry_read
  pointwise
  blk_ext

end Cert.GqaIdeal.Row

end
-- ==== Proof.GqaValue.lean ====
/- The result array of the grouped-query attention, element by element. -/
module

public import proofs.«01_k».proof.Proof.Gen.GqaIdeal.Value
public import proofs.«01_k».proof.Proof.GqaRow
public import proofs.«01_k».proof.Proof.GqaHost
public import Idealize.ShloMosaic.Lib.Pipeline.ValueKit
public import Idealize.ShloMosaic.Lib.Pipeline.ReadBack

@[expose] public section

set_option maxRecDepth 16384

noncomputable section

namespace Cert.GqaIdeal.Row

open Cert.GqaIdeal Cert.GqaIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- A row and a column of the block of queries the body reads for group `g`. -/
def lane (g : Fin 4) (l : Fin 128) : Fin 512 := ⟨g.val * 128 + l.val, by omega⟩

/-- A column of the result's block, over the three blocks. -/
def col (q : Vec Ideal S1024x512 .bf16) (kt : Vec Ideal S128x2048 .bf16) (v : Vec Ideal S2048x128 .bf16)
    (r : Fin 1024) (g : Fin 4) (l : Fin 128) : EReal :=
  attend (score (l.val / 64) (fun l => q (ix2 r (lane g l))) fun l n => kt (ix2 l n)) fun n => v (ix2 n l)

/-- A load of a group's 128 columns. -/
theorem load_at (q : Vec Ideal S1024x512 .bf16) (g : Fin 4) (o : ℕ) (ho : o = g.val * 128)
    (inb : ∀ a, (![0, o] : Fin 2 → ℕ) a + (![1024, 128] : Fin 2 → ℕ) a ≤ S1024x512.size a) (r : Fin 1024) (l : Fin 128) :
    View.ld q (Rect.unit ![0, o] ![1024, 128] inb) (ix2 r l) = q (ix2 r (lane g l)) := by
  subst ho
  refine congrArg q ?_
  funext a
  refine Fin.ext ?_
  match a with
  | ⟨0, _⟩ => show 0 + 1 * r.val = r.val; omega
  | ⟨1, _⟩ => show g.val * 128 + 1 * l.val = g.val * 128 + l.val; omega

/-- A group's columns over the loaded queries, at the row and the column the block's index says. -/
theorem group_load (q : Vec Ideal S1024x512 .bf16) (kt : Vec Ideal S128x2048 .bf16) (v : Vec Ideal S2048x128 .bf16)
    (g' : Fin 4) {o : ℕ} (ho : o = g'.val * 128)
    (inb : ∀ a, (![0, o] : Fin 2 → ℕ) a + (![1024, 128] : Fin 2 → ℕ) a ≤ S1024x512.size a)
    {r r' : Fin 1024} {g : Fin 4} {l l' : Fin 128} (hr : r.val = r'.val) (hl : (lane g l).val = o + l'.val) :
    group (View.ld q (Rect.unit ![0, o] ![1024, 128] inb)) kt (kept v) (ix2 r' l') = col q kt v r g l := by
  rw [group_at]
  simp only [load_at q g' o ho inb]
  have hl' : g.val * 128 + l.val = o + l'.val := hl
  obtain rfl : r = r' := Fin.ext hr
  obtain rfl : g = g' := Fin.ext (by omega)
  obtain rfl : l = l' := Fin.ext (by omega)
  rfl

/-- What the first point of a batch keeps of the values. -/
theorem scratch (t : Fin cfg0.N) (h0 : t.val % 2 = 0) : (outsAt0 m c t.val t.isLt).2 = kept (iblk m c 2 t) := by
  rw [outsAt0_A m c t h0]
  frame_out
  exact kept_canon _

/-- Read back at the first point, it is the same. -/
theorem read_kept (w : View sig .tc .vmem S2048x256 .bf16) (v : Vec Ideal S2048x128 .bf16) :
    w.readCov [⟨Rect.unit ![0, 128] ![2048, 128] inb_S2048x256_S2048x128_0_128, (k0_pay4 (F := Ideal))⟩,
        ⟨Rect.unit ![0, 0] ![2048, 128] inb_S2048x256_S2048x128_0_0, k0_pay3 v⟩]
      (Rect.unit ![0, 0] ![2048, 256] inb_S2048x256_S2048x256_0_0).toLoadRect = kept v := by
  rw [View.readCov_eq_canon', kept_canon]
  funext j
  refine congrArg (kept v) ?_
  funext a
  refine Fin.ext ?_
  match a with
  | ⟨0, _⟩ => show 0 + 1 * (j 0).val = (j 0).val; omega
  | ⟨1, _⟩ => show 0 + 1 * (j 1).val = (j 1).val; omega

/-- The result's block after the first point of a batch. -/
theorem block_A (t : Fin cfg0.N) (h0 : t.val % 2 = 0) (r : Fin 1024) (g : Fin 4) (l : Fin 128) :
    (outsAt0 m c t.val t.isLt).1 (ix2 r (lane g l))
      = col (iblk m c 0 t) (iblk m c 1 t) (iblk m c 2 t) r g l := by
  rw [outsAt0_A m c t h0]
  frame_out
  canon_tiles x h
  all_goals
    rw [read_kept]
    refine (congrFun (show _ = group _ _ _ from rfl) x).trans ?_
    idx_vars x
  · exact group_load _ _ _ 3 rfl _ h0 h1
  · exact group_load _ _ _ 2 rfl _ h0 h1
  · exact group_load _ _ _ 1 rfl _ h0 h1
  · exact group_load _ _ _ 0 rfl _ h0 (h1.trans (Nat.zero_add _).symm)

/-- The result's block after the second point of a batch. -/
theorem block_B (t : Fin cfg0.N) (h0 : ¬ t.val % 2 = 0) (v : Vec Ideal S2048x128 .bf16)
    (hv : ∀ h, (outsAt0 m c (t.val - 1) h).2 = kept v) (r : Fin 1024) (g : Fin 4) (l : Fin 128) :
    (outsAt0 m c t.val t.isLt).1 (ix2 r (lane g l)) = col (iblk m c 0 t) (iblk m c 1 t) v r g l := by
  rw [outsAt0_B m c t h0]
  frame_out
  canon_tiles x h
  all_goals
    rw [hv, read_unread_whole]
    refine (congrFun (show _ = group _ _ _ from rfl) x).trans ?_
    idx_vars x
  · exact group_load _ _ _ 3 rfl _ h0 h1
  · exact group_load _ _ _ 2 rfl _ h0 h1
  · exact group_load _ _ _ 1 rfl _ h0 h1
  · exact group_load _ _ _ 0 rfl _ h0 (h1.trans (Nat.zero_add _).symm)

/-- The index maps: the queries' and the result's windows follow the grid, the keys' and the values' the batch. -/
theorem idx : ∀ t : Fin cfg0.N, win0_0.index t = ![t.val, 0] ∧ win0_1.index t = ![0, t.val / 2]
    ∧ win0_2.index t = ![t.val / 2, 0] ∧ win0_3.index t = ![t.val, 0] ∧ t.val < 64 :=
  (by decide +kernel : ∀ t : Fin grid0.N, _)

/-- The queries' block. -/
theorem blk0_at (t : Fin cfg0.N) (r : Fin 1024) (g : Fin 4) (l : Fin 128) (b : Fin 32) (s : Fin 2048)
    (hi : t.val * 1024 + r.val = b.val * 2048 + s.val) :
    iblk m c 0 t (ix2 r (lane g l)) = m ((c : Thread nD τ).loc main_arg0) (ix5 b s (headOf l) g (placeOf l)) :=
  Eq.trans (by blk_ext [iblk, idx t]) (q_at m c b s g l ⟨b.val * 2048 + s.val, by omega⟩ (lane g l) rfl rfl)

/-- The keys' block. -/
theorem blk1_at (t : Fin cfg0.N) (l : Fin 128) (n : Fin 2048) (b : Fin 32) (hb : t.val / 2 = b.val) :
    iblk m c 1 t (ix2 l n) = m ((c : Thread nD τ).loc main_arg1) (ix4 b n (headOf l) (placeOf l)) :=
  Eq.trans (by blk_ext [iblk, idx t]) (k_at m c b n l ⟨b.val * 2048 + n.val, by omega⟩ rfl)

/-- The values' block. -/
theorem blk2_at (t : Fin cfg0.N) (l : Fin 128) (n : Fin 2048) (b : Fin 32) (hb : t.val / 2 = b.val) :
    iblk m c 2 t (ix2 n l)
      = m ((c : Thread nD τ).loc main_arg2) (ix4 b n ⟨l.val / 64, by omega⟩ ⟨l.val % 64, by omega⟩) :=
  Eq.trans (by blk_ext [iblk, idx t]) (v_at m c b n l ⟨b.val * 2048 + n.val, by omega⟩ rfl)

/-- The result at batch `b`, position `s`, group `g` and lane `l`, from the arguments. -/
def row (x0 : S32x2048x2x4x64.Idx → EReal) (x1 x2 : S32x2048x2x64.Idx → EReal)
    (b : Fin 32) (s : Fin 2048) (g : Fin 4) (l : Fin 128) : EReal :=
  attend (score (l.val / 64) (fun l => x0 (ix5 b s (headOf l) g (placeOf l)))
      fun l n => x1 (ix4 b n (headOf l) (placeOf l)))
    fun n => x2 (ix4 b n ⟨l.val / 64, by omega⟩ ⟨l.val % 64, by omega⟩)

/-- The result's block after any point, over the arguments. -/
theorem block_at (t : Fin cfg0.N) (r : Fin 1024) (g : Fin 4) (l : Fin 128) (b : Fin 32) (s : Fin 2048)
    (hi : t.val * 1024 + r.val = b.val * 2048 + s.val) :
    (outsAt0 m c t.val t.isLt).1 (ix2 r (lane g l))
      = row (m ((c : Thread nD τ).loc main_arg0)) (m ((c : Thread nD τ).loc main_arg1))
          (m ((c : Thread nD τ).loc main_arg2)) b s g l := by
  have hb : t.val / 2 = b.val := by omega
  by_cases h0 : t.val % 2 = 0
  · rw [block_A m c t h0]
    unfold col
    simp only [fun l => blk0_at m c t r g l b s hi, fun l n => blk1_at m c t l n b hb,
      fun l n => blk2_at m c t l n b hb]
    rfl
  · have ht : t.val - 1 < cfg0.N := by have := t.isLt; omega
    rw [block_B m c t h0 (iblk m c 2 ⟨t.val - 1, ht⟩) fun h => scratch m c ⟨t.val - 1, ht⟩ (by simp only; omega)]
    unfold col
    simp only [fun l => blk0_at m c t r g l b s hi, fun l n => blk1_at m c t l n b hb,
      fun l n => blk2_at m c ⟨t.val - 1, ht⟩ l n b (by simp only; omega)]
    rfl

/-- The result array over the arguments. -/
theorem final : (dats m 0 c).arrAt 3 cfg0.N = fun i : S65536x512.Idx =>
    row (m ((c : Thread nD τ).loc main_arg0)) (m ((c : Thread nD τ).loc main_arg1)) (m ((c : Thread nD τ).loc main_arg2))
      ⟨(i 0).val / 2048, by have := (i 0).isLt; simp only [S65536x512] at this; change _ < 65536 at this; omega⟩
      ⟨(i 0).val % 2048, by omega⟩
      ⟨(i 1).val / 128, by have := (i 1).isLt; simp only [S65536x512] at this; change _ < 512 at this; omega⟩
      ⟨(i 1).val % 128, by omega⟩ := by
  refine (dats m 0 c).arrAt_eq_of_covers 3 _ (by decide +kernel) fun t _ y => ?_
  blk_simp
  rw [after0_3]
  idx_vars y
  obtain ⟨-, -, -, h3, ht⟩ := idx t
  simp only [h3, Matrix.cons_val_zero, Matrix.cons_val_one]
  obtain ⟨g, l, rfl⟩ : ∃ (g : Fin 4) (l : Fin 128), y1 = lane g l :=
    ⟨⟨y1.val / 128, by omega⟩, ⟨y1.val % 128, by omega⟩,
      Fin.ext (show y1.val = y1.val / 128 * 128 + y1.val % 128 by omega)⟩
  refine (block_at m c t y0 g l ⟨(t.val * 1024 + y0.val) / 2048, by omega⟩ ⟨(t.val * 1024 + y0.val) % 2048, by omega⟩
    (show t.val * 1024 + y0.val = (t.val * 1024 + y0.val) / 2048 * 2048 + (t.val * 1024 + y0.val) % 2048 by omega)).trans ?_
  exact congrArg₂ (row _ _ _ _ _) (Fin.ext (show g.val = (0 * 512 + (g.val * 128 + l.val)) / 128 by omega))
    (Fin.ext (show l.val = (0 * 512 + (g.val * 128 + l.val)) % 128 by omega))

end Cert.GqaIdeal.Row

end
-- ==== Proof.GqaClaim.lean ====
/- The grouped-query attention against its reference: equal results from launches that agree on the arguments. -/
module

public import proofs.«01_k».proof.Defs
public import proofs.«01_k».proof.Proof.GqaMath
public import proofs.«01_k».proof.Proof.GqaRef
public import proofs.«01_k».proof.Proof.GqaValue
public import proofs.«01_k».proof.Proof.Gen.Pre_finite_b
public import Idealize.ShloMosaic.Adequacy
public import Idealize.ShloMosaic.Init
public import Idealize.ShloMosaic.Lib.Quiescent
public import Idealize.ShloMosaic.Lib.ReduceAll

@[expose] public section

set_option maxRecDepth 16384

noncomputable section

namespace Cert.Proof

open Idealize.ShloMosaic Idealize.ShloMosaic.TcCoe Idealize.SL.Sem
open Cert.GqaIdeal.Row (headOf placeOf sum_lanes row score attend scale)

/-- The body's scores of a head, where the queries and the keys are real. -/
theorem score_real (h : Fin 2) (q k : Fin 2 → Fin 64 → ℝ) :
    (∑ l : Fin 128, if l.val % 64 / 32 = h.val
      then (q (headOf l) (placeOf l) : EReal) * scale * (k (headOf l) (placeOf l) : EReal) else 0)
      = (((∑ d, k h d * q h d) * 8⁻¹ * (Real.log 2)⁻¹ : ℝ) : EReal) := by
  rw [mul_assoc, Finset.sum_mul, ← sum_lanes h, Cert.GqaMath.coe_sum]
  refine Finset.sum_congr rfl fun l _ => ?_
  by_cases hl : l.val % 64 / 32 = h.val
  · rw [if_pos hl, if_pos hl, show headOf l = h from Fin.ext hl, scale, ← EReal.coe_mul, ← EReal.coe_mul]
    exact congrArg _ (by ring)
  · rw [if_neg hl, if_neg hl]; rfl

/-- A row of the call is the reference's, where the queries and the keys are real. -/
theorem row_eq (x0 : Cert.GqaIdeal.S32x2048x2x4x64.Idx → EReal) (x1 x2 : Cert.GqaIdeal.S32x2048x2x64.Idx → EReal)
    (hq : ∀ j, ∃ r : ℝ, x0 j = r) (hk : ∀ j, ∃ r : ℝ, x1 j = r)
    (b : Fin 32) (s : Fin 2048) (g : Fin 4) (l : Fin 128) (h : Fin 2) (d : Fin 64)
    (hh : h.val = l.val / 64) (hd : d.val = l.val % 64) :
    row x0 x1 x2 b s g l = ∑ n : Fin 2048, x2 (ix4 b n h d) *
      Ideal.div (Cert.GqaRefIdeal.Row.exps (Cert.GqaRefIdeal.Row.scores x0 x1) (ix5 b h g s n))
        (∑ n : Fin 2048, (Cert.GqaRefIdeal.Row.exps (Cert.GqaRefIdeal.Row.scores x0 x1) (ix5 b h g s n) : EReal)) := by
  choose q hq using hq
  choose k hk using hk
  unfold row
  rw [show (⟨l.val / 64, by omega⟩ : Fin 2) = h from Fin.ext hh.symm,
    show (⟨l.val % 64, by omega⟩ : Fin 64) = d from Fin.ext hd.symm, ← hh,
    Cert.GqaMath.attend_eq (fun n => (∑ d, k (ix4 b n h d) * q (ix5 b s h g d)) * 8⁻¹) _ _
      (fun n => Cert.GqaRefIdeal.Row.scores x0 x1 (ix5 b h g s n))]
  · simp only [Cert.GqaRefIdeal.Row.exps_at, Cert.GqaRefIdeal.Row.tops_at]
  · intro n
    simp only [score, hq, hk]
    exact score_real h (fun h d => q (ix5 b s h g d)) (fun h d => k (ix4 b n h d))
  · intro n
    rw [Cert.GqaRefIdeal.Row.scores_at, Cert.GqaMath.eighth]
    simp only [hq, hk, EReal.coe_mul, Cert.GqaMath.coe_sum]

/-- An extended real whose absolute value is below infinity is real. -/
theorem real_of_abs_lt (x : EReal)
    (h : FloatOps.cmpf (F := Ideal) (φ := .f32) .olt (FloatOps.hostAbsf (F := Ideal) (φ := .f32) x)
      (Ideal.ofBits .f32 0x7F800000#32) = 1#1) :
    ∃ r : ℝ, x = r := by
  rw [Cert.GqaMath.pos_inf] at h
  have h' : Ideal.cmp .olt (max x (-x)) ⊤ = 1#1 := h
  induction x with
  | bot => simp [Ideal.cmp] at h'
  | top => simp [Ideal.cmp] at h'
  | coe r => exact ⟨r, rfl⟩

/-- Where the precondition's function is one, the queries and the keys are real. -/
theorem real_of_pre (x0 : Cert.GqaIdeal.S32x2048x2x4x64.Idx → EReal) (x1 x2 : Cert.GqaIdeal.S32x2048x2x64.Idx → EReal)
    (h : Cert.Pre_finite_b.fn (F := Ideal) x0 x1 x2 = fun _ => 1#1) :
    (∀ j, ∃ r : ℝ, x0 j = r) ∧ ∀ j, ∃ r : ℝ, x1 j = r := by
  obtain ⟨h0, h1⟩ := IntOp.andi_eq_one.1 (congrFun h (Shape.Idx.first Cert.Pre_finite_b.Gen.facts.h_S_))
  haveI : Subsingleton Cert.Pre_finite_b.S_.Idx := ⟨fun a b => funext fun a => a.elim0⟩
  exact ⟨fun j => real_of_abs_lt _ (Host.reduce_andi_all _ _ _ _ _ h0 j),
    fun j => real_of_abs_lt _ (Host.reduce_andi_all _ _ _ _ _ h1 j)⟩

/-- The grouped-query attention computes what its reference computes, over the extended reals. -/
theorem gqa_algebraic : Cert.algebraic_GqaIdeal_GqaRefIdeal_pre_finite_b := by
  intro m ρ m' ρ' hpre hagree
  refine ⟨_, Cert.GqaIdeal.Value.run_blocks (F := Ideal) m ρ, ?_⟩
  refine (θ_run Cert.GqaRefIdeal.defs _ _).mono (fun _ h c => ⟨?_, (h c).2⟩)
    (Cert.GqaRefIdeal.Value.run (F := Ideal) m' ρ')
  rw [(h c).1]
  obtain ⟨e0, e1, e2⟩ := hagree c
  obtain ⟨hq, hk⟩ := real_of_pre _ _ _ (hpre c)
  refine Eq.trans ?_ (Cert.GqaIdeal.Row.final m c).symm
  funext i
  idx_vars i
  rw [e0, e1, e2]
  refine (Cert.GqaRefIdeal.Row.result_at _ _ i0 i1).trans ?_
  exact (row_eq _ _ _ hq hk _ _ _ _ _ _ (by simp only; omega) (by simp only; omega)).symm

end Cert.Proof

end
-- ==== Proof.PostRow.lean ====
/- The rows of the output projection, the feed-forward part and the two norms: what the body of the call computes for
   each row of its block, as one function of that row. -/
module

public import proofs.«01_k».proof.Proof.Gen.PostIdeal.Skeleton
public import Idealize.ShloMosaic.Lib.Pointwise

@[expose] public section

set_option maxRecDepth 16384

noncomputable section

namespace Cert.PostRow

open Idealize.ShloMosaic

/-- The norm of a row `z` of 1024 entries with gain `g` and bias `b`: centred by its mean, times the reciprocal root of
    its variance plus the epsilon. -/
def norm (z g b : Fin 1024 → EReal) (l : Fin 1024) : EReal :=
  (z l - Ideal.div (∑ k, z k) (Ideal.ofBits FTy.f32 0x44800000#32)) *
      Ideal.rsqrt (Ideal.div
          (∑ k, (z k - Ideal.div (∑ j, z j) (Ideal.ofBits FTy.f32 0x44800000#32)) *
            (z k - Ideal.div (∑ j, z j) (Ideal.ofBits FTy.f32 0x44800000#32)))
          (Ideal.ofBits FTy.f32 0x44800000#32) + Ideal.ofBits FTy.f32 0x3727C5AC#32) * g l + b l

/-- The residual `x` scaled and added to `d`, normed. -/
def addNorm (x d g b : Fin 1024 → EReal) : Fin 1024 → EReal :=
  norm (fun l => Ideal.ofBits FTy.f32 0x3FD744FD#32 * x l + d l) g b

/-- The output projection of the three mixers' rows, each by its own rows of the weights. -/
def mix (a : Fin 256 → EReal) (b : Fin 512 → EReal) (c : Fin 256 → EReal) (wa : Fin 256 → Fin 1024 → EReal)
    (wb : Fin 512 → Fin 1024 → EReal) (wc : Fin 256 → Fin 1024 → EReal) (l : Fin 1024) : EReal :=
  ∑ k, a k * wa k l + ∑ k, b k * wb k l + ∑ k, c k * wc k l

/-- The hidden row of the feed-forward part: the gate times its logistic times the up projection. -/
def hidden (y : Fin 1024 → EReal) (wg wu : Fin 1024 → Fin 2816 → EReal) (f : Fin 2816) : EReal :=
  (∑ k, y k * wg k f) * Ideal.logistic (∑ k, y k * wg k f) * ∑ k, y k * wu k f

/-- The feed-forward part of a row. -/
def ffn (y : Fin 1024 → EReal) (wg wu : Fin 1024 → Fin 2816 → EReal) (wd : Fin 2816 → Fin 1024 → EReal)
    (l : Fin 1024) : EReal :=
  ∑ f, hidden y wg wu f * wd f l

/-- The row after the feed-forward part and its norm. -/
def last (y : Fin 1024 → EReal) (wg wu : Fin 1024 → Fin 2816 → EReal) (wd : Fin 2816 → Fin 1024 → EReal)
    (g b : Fin 1024 → EReal) : Fin 1024 → EReal :=
  addNorm y (ffn y wg wu wd) g b

end Cert.PostRow

namespace Cert.PostIdeal.Row

open Cert.PostIdeal Cert.PostIdeal.Gen Idealize.ShloMosaic Idealize.ShloMosaic.TcCoe Idealize.SL.Sem Cert.PostRow

/-- The body's result for a group of 256 rows, from their loads and the weights' loads. -/
def group (x : Vec Ideal S256x1024 .f32) (a : Vec Ideal S256x256 .bf16) (b : Vec Ideal S256x512 .bf16)
    (c : Vec Ideal S256x256 .bf16) (wa : Vec Ideal S256x1024 .bf16) (wb : Vec Ideal S512x1024 .bf16)
    (wc : Vec Ideal S256x1024 .bf16) (g1 b1 : Vec Ideal S1x1024 .f32) (wg wu : Vec Ideal S1024x2816 .bf16)
    (wd : Vec Ideal S2816x1024 .bf16) (g2 b2 : Vec Ideal S1x1024 .f32) : FVec Ideal S256x1024 .f32 :=
  k0_pay20 (k0_pay18 (k0_pay9 (k0_pay2 a wa b wb c wc) x g1 b1)
    (k0_pay21 (k0_pay22 (k0_pay9 (k0_pay2 a wa b wb c wc) x g1 b1) wg wu) wd)) (k0_pay19 g2) b2

/-- The residual plus the projection, normed, at a row and a column. -/
theorem y_at (a : Vec Ideal S256x256 .bf16) (wa : Vec Ideal S256x1024 .bf16) (b : Vec Ideal S256x512 .bf16)
    (wb : Vec Ideal S512x1024 .bf16) (c : Vec Ideal S256x256 .bf16) (wc : Vec Ideal S256x1024 .bf16)
    (x : Vec Ideal S256x1024 .f32) (g1 b1 : Vec Ideal S1x1024 .f32) (r : Fin 256) (l : Fin 1024) :
    k0_pay9 (F := Ideal) (k0_pay2 a wa b wb c wc) x g1 b1 (ix2 r l)
      = addNorm (fun k => x (ix2 r k))
          (mix (fun k => a (ix2 r k)) (fun k => b (ix2 r k)) (fun k => c (ix2 r k)) (fun k l => wa (ix2 k l))
            (fun k l => wb (ix2 k l)) fun k l => wc (ix2 k l))
          (fun l => g1 (ix2 0 l)) (fun l => b1 (ix2 0 l)) l := by
  pointwise [k0_pay9, k0_pay2]
  rfl

/-- The hidden row at a column. -/
theorem hidden_at (y : FVec Ideal S256x1024 .f32) (wg wu : Vec Ideal S1024x2816 .bf16) (r : Fin 256) (f : Fin 2816) :
    k0_pay22 (F := Ideal) y wg wu (ix2 r f)
      = hidden (fun k => y (ix2 r k)) (fun k f => wg (ix2 k f)) (fun k f => wu (ix2 k f)) f := by
  pointwise [k0_pay22]
  rfl

/-- The result of a group at a row and a column, from the row before the feed-forward part. -/
theorem last_at (y : FVec Ideal S256x1024 .f32) (wg wu : Vec Ideal S1024x2816 .bf16) (wd : Vec Ideal S2816x1024 .bf16)
    (g2 b2 : Vec Ideal S1x1024 .f32) (r : Fin 256) (l : Fin 1024) :
    k0_pay20 (F := Ideal) (k0_pay18 y (k0_pay21 (k0_pay22 y wg wu) wd)) (k0_pay19 g2) b2 (ix2 r l)
      = last (fun k => y (ix2 r k)) (fun k f => wg (ix2 k f)) (fun k f => wu (ix2 k f)) (fun f l => wd (ix2 f l))
          (fun l => g2 (ix2 0 l)) (fun l => b2 (ix2 0 l)) l := by
  have hf (j : Fin 1024) : k0_pay21 (F := Ideal) (k0_pay22 y wg wu) wd (ix2 r j)
      = ffn (fun k => y (ix2 r k)) (fun k f => wg (ix2 k f)) (fun k f => wu (ix2 k f)) (fun f l => wd (ix2 f l)) j := by
    pointwise [k0_pay21]
    exact Finset.sum_congr rfl fun f _ => congrArg (· * _) (hidden_at y wg wu r f)
  pointwise [k0_pay20, k0_pay18, k0_pay19, hf]
  rfl

/-- A group's result at a row and a column is the row function of that row. -/
theorem group_at (x : Vec Ideal S256x1024 .f32) (a : Vec Ideal S256x256 .bf16) (b : Vec Ideal S256x512 .bf16)
    (c : Vec Ideal S256x256 .bf16) (wa : Vec Ideal S256x1024 .bf16) (wb : Vec Ideal S512x1024 .bf16)
    (wc : Vec Ideal S256x1024 .bf16) (g1 b1 : Vec Ideal S1x1024 .f32) (wg wu : Vec Ideal S1024x2816 .bf16)
    (wd : Vec Ideal S2816x1024 .bf16) (g2 b2 : Vec Ideal S1x1024 .f32) (r : Fin 256) (l : Fin 1024) :
    group x a b c wa wb wc g1 b1 wg wu wd g2 b2 (ix2 r l)
      = last (addNorm (fun k => x (ix2 r k))
          (mix (fun k => a (ix2 r k)) (fun k => b (ix2 r k)) (fun k => c (ix2 r k)) (fun k l => wa (ix2 k l))
            (fun k l => wb (ix2 k l)) fun k l => wc (ix2 k l))
          (fun l => g1 (ix2 0 l)) (fun l => b1 (ix2 0 l)))
        (fun k f => wg (ix2 k f)) (fun k f => wu (ix2 k f)) (fun f l => wd (ix2 f l))
        (fun l => g2 (ix2 0 l)) (fun l => b2 (ix2 0 l)) l := by
  unfold group
  rw [last_at]
  simp only [y_at]

end Cert.PostIdeal.Row

end
-- ==== Proof.PostHost.lean ====
/- The arrays the host prepares for the last call, element by element over the arguments. -/
module

public import proofs.«01_k».proof.Proof.Gen.PostIdeal.Value
public import Idealize.ShloMosaic.Lib.Pointwise
public import Idealize.ShloMosaic.Lib.Claim
public import Idealize.ShloMosaic.Lib.Pipeline.ValueKit

@[expose] public section

set_option maxRecDepth 16384

noncomputable section

namespace Cert.PostIdeal.Row

open Cert.PostIdeal Cert.PostIdeal.Gen Idealize.ShloMosaic Idealize.ShloMosaic.TcCoe Idealize.SL.Sem
open Idealize.ShloMosaic.Pipeline (Dat)

/-- A gather of whole rows, read at a row and a column: the operand's row the start index names, clamped. -/
theorem gather_at {α : Type} (x : S1024x1024.Idx → α) (idx : IVec S1024x1 32) (r l : Fin 1024) :
    Host.gather gather_S1024x1024_S1024x1_S1024x1024_1_0_n_n_0_1_11024 x idx (ix2 r l)
      = x (ix2 ⟨min (idx (ix2 r 0)).toInt.toNat 1023, by omega⟩ l) := by
  unfold Host.gather
  congr 1
  funext a
  refine Fin.ext ?_
  set d := gather_S1024x1024_S1024x1_S1024x1024_1_0_n_n_0_1_11024
  show d.start (ix2 r l) idx a + d.batchCoord (ix2 r l) a + d.offCoord (ix2 r l) a = _
  have h01 : a = 0 ∨ a = 1 := by
    match a with
    | ⟨0, _⟩ => exact Or.inl rfl
    | ⟨1, _⟩ => exact Or.inr rfl
  rw [GatherDims.batchCoord_eq_zero _ _ _ (fun h => by simp [d, gather_S1024x1024_S1024x1_S1024x1024_1_0_n_n_0_1_11024] at h)]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix2 r l) ⟨List.idxOf (0 : Fin 2) d.startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  · unfold GatherDims.start
    rw [dif_neg (fun h => by simp [d, gather_S1024x1024_S1024x1_S1024x1024_1_0_n_n_0_1_11024] at h)]
    simp only [Nat.zero_add]
    rfl

/-- The row of the projection's weights that column `k` of the second mixer's rearranged output meets, counted within
    that mixer's 512 rows: from (group, head, 64) order to (head, group, 64) order. -/
def order (k : Fin 512) : Fin 512 := ⟨k.val % 128 / 64 * 256 + k.val / 128 * 64 + k.val % 64, by omega⟩

/-- The constant table of row numbers: the second mixer's rows in the rearranged order, the others where they were. -/
theorem table (k : Fin 1024) : (lit0 k).toInt.toNat
    = if h : 256 ≤ k.val ∧ k.val < 768 then 256 + (order ⟨k.val - 256, by omega⟩).val else k.val := by
  revert k
  decide +kernel

variable (m : (ℓ : Loc nD τ sig) → Buf (Elt Ideal) ℓ) (c : Dev nD)

/-- The residual's rows. -/
theorem x_at (b : Fin 32) (s : Fin 2048) (k : Fin 1024) (i : Fin 65536) (hi : i.val = b.val * 2048 + s.val) :
    V m c main_v17 (ix2 i k) = m ((c : Thread nD τ).loc main_arg0) (ix3 b s k) := by
  entry_read
  pointwise
  blk_ext

/-- The first mixer's rows. -/
theorem a_at (b : Fin 32) (s : Fin 2048) (k : Fin 256) (i : Fin 65536) (hi : i.val = b.val * 2048 + s.val) :
    V m c main_v1 (ix2 i k) = m ((c : Thread nD τ).loc main_arg1) (ix3 b s k) := by
  entry_read
  pointwise
  blk_ext

/-- The second mixer's rows, in the rearranged order. -/
theorem b_at (b : Fin 32) (s : Fin 2048) (k : Fin 512) (i : Fin 65536) (hi : i.val = b.val * 2048 + s.val) :
    V m c main_v5 (ix2 i k) = m ((c : Thread nD τ).loc main_arg2) (ix3 b s (order k)) := by
  entry_read
  pointwise
  blk_ext [order]

/-- The third mixer's rows. -/
theorem c_at (b : Fin 32) (s : Fin 2048) (k : Fin 256) (i : Fin 65536) (hi : i.val = b.val * 2048 + s.val) :
    V m c main_v7 (ix2 i k) = m ((c : Thread nD τ).loc main_arg3) (ix3 b s k) := by
  entry_read
  pointwise
  blk_ext

/-- The gathered rows: row `k` is row `j` of the operand when the table says so. -/
theorem w_at (x : S1024x1024.Idx → EReal) (k j l : Fin 1024) (h : (lit0 k).toInt.toNat = j.val) :
    Host.gather gather_S1024x1024_S1024x1_S1024x1024_1_0_n_n_0_1_11024 x
        (broadcastInDim S1024x1 ![0] bcast_S1024_S1024x1_0 (select (constantI S1024 1 0#1)
          (addi (fun i => lit0 (S1024.rowMajor i)) (broadcastInDim S1024 ![] bcast_S_S1024 (constantI S_ 32 1024#32)))
          fun i => lit0 (S1024.rowMajor i))) (ix2 k l)
      = x (ix2 j l) := by
  have hk : S1024.rowMajor (ix1 k) = k := by
    refine Fin.ext ?_
    show Shape.rankPi ![1024] (ix1 k) = k.val
    simp [Shape.rankPi, Shape.prodPi]
  refine (gather_at _ _ _ _).trans ?_
  pointwise
  have hj : (lit0 (S1024.rowMajor (ix1 k))).toInt.toNat = j.val :=
    (congrArg (fun z => (lit0 z).toInt.toNat) hk).trans h
  refine congrArg x (congrArg (ix2 · l) (Fin.ext ?_))
  show min (lit0 (S1024.rowMajor (ix1 k))).toInt.toNat 1023 = j.val
  rw [hj]
  omega

/-- The first mixer's rows of the projection. -/
theorem wa_at (k : Fin 256) (l : Fin 1024) :
    V m c main_v14 (ix2 k l) = m ((c : Thread nD τ).loc main_arg4) (ix2 ⟨k.val, by omega⟩ l) := by
  entry_read
  pointwise
  exact (w_at _ ⟨k.val, by omega⟩ _ l ((table _).trans (dif_neg (by simp only; omega))))

/-- The second mixer's rows of the projection, in the rearranged order. -/
theorem wb_at (k : Fin 512) (l : Fin 1024) :
    V m c main_v15 (ix2 k l) = m ((c : Thread nD τ).loc main_arg4) (ix2 ⟨256 + (order k).val, by omega⟩ l) := by
  entry_read
  pointwise
  exact (w_at _ ⟨256 + k.val, by omega⟩ _ l ((table _).trans ((dif_pos (by simp only; omega)).trans (by
    simp only [Nat.add_sub_cancel_left]))))

/-- The third mixer's rows of the projection. -/
theorem wc_at (k : Fin 256) (l : Fin 1024) :
    V m c main_v16 (ix2 k l) = m ((c : Thread nD τ).loc main_arg4) (ix2 ⟨768 + k.val, by omega⟩ l) := by
  entry_read
  pointwise
  exact (w_at _ ⟨768 + k.val, by omega⟩ _ l ((table _).trans (dif_neg (by simp only; omega))))

/-- The gain of the first norm. -/
theorem g1_at (l : Fin 1024) : V m c main_v18 (ix2 0 l) = m ((c : Thread nD τ).loc main_arg5) (ix1 l) := by
  entry_read
  pointwise

/-- The bias of the first norm. -/
theorem b1_at (l : Fin 1024) : V m c main_v19 (ix2 0 l) = m ((c : Thread nD τ).loc main_arg6) (ix1 l) := by
  entry_read
  pointwise

/-- The gate's weights. -/
theorem wg_at (k : Fin 1024) (f : Fin 2816) :
    V m c main_v20 (ix2 k f) = m ((c : Thread nD τ).loc main_arg7) (ix2 k f) := by
  entry_read
  pointwise

/-- The up projection's weights. -/
theorem wu_at (k : Fin 1024) (f : Fin 2816) :
    V m c main_v21 (ix2 k f) = m ((c : Thread nD τ).loc main_arg8) (ix2 k f) := by
  entry_read
  pointwise

/-- The down projection's weights. -/
theorem wd_at (f : Fin 2816) (l : Fin 1024) :
    V m c main_v22 (ix2 f l) = m ((c : Thread nD τ).loc main_arg9) (ix2 f l) := by
  entry_read
  pointwise

/-- The gain of the second norm. -/
theorem g2_at (l : Fin 1024) : V m c main_v23 (ix2 0 l) = m ((c : Thread nD τ).loc main_arg10) (ix1 l) := by
  entry_read
  pointwise

/-- The bias of the second norm. -/
theorem b2_at (l : Fin 1024) : V m c main_v24 (ix2 0 l) = m ((c : Thread nD τ).loc main_arg11) (ix1 l) := by
  entry_read
  pointwise

end Cert.PostIdeal.Row

end
-- ==== Proof.PostValue.lean ====
/- The result array of the last call, element by element. -/
module

public import proofs.«01_k».proof.Proof.Gen.PostIdeal.Value
public import proofs.«01_k».proof.Proof.PostRow
public import proofs.«01_k».proof.Proof.PostHost
public import Idealize.ShloMosaic.Lib.Pipeline.ValueKit

@[expose] public section

set_option maxRecDepth 16384

noncomputable section

namespace Cert.PostIdeal.Row

open Cert.PostIdeal Cert.PostIdeal.Gen Idealize.ShloMosaic Idealize.ShloMosaic.TcCoe Idealize.SL.Sem Cert.PostRow
open Idealize.ShloMosaic.Pipeline (Dat)

/-- What the body leaves in the block, at a row and a column: the row function of the blocks' rows. -/
theorem block_at (x0 : Vec Ideal S1024x1024 .f32) (x1 : Vec Ideal S1024x256 .bf16) (x2 : Vec Ideal S1024x512 .bf16)
    (x3 : Vec Ideal S1024x256 .bf16) (x4 : Vec Ideal S256x1024 .bf16) (x5 : Vec Ideal S512x1024 .bf16)
    (x6 : Vec Ideal S256x1024 .bf16) (x7 x8 : Vec Ideal S1x1024 .f32) (x9 x10 : Vec Ideal S1024x2816 .bf16)
    (x11 : Vec Ideal S2816x1024 .bf16) (x12 x13 : Vec Ideal S1x1024 .f32) (r l : Fin 1024) :
    out0_14 x0 x1 x2 x3 x4 x5 x6 x7 x8 x9 x10 x11 x12 x13 (ix2 r l)
      = last (addNorm (fun k => x0 (ix2 r k))
          (mix (fun k => x1 (ix2 r k)) (fun k => x2 (ix2 r k)) (fun k => x3 (ix2 r k))
            (fun k l => x4 (ix2 k l)) (fun k l => x5 (ix2 k l)) fun k l => x6 (ix2 k l))
          (fun l => x7 (ix2 0 l)) (fun l => x8 (ix2 0 l)))
        (fun k f => x9 (ix2 k f)) (fun k f => x10 (ix2 k f)) (fun f l => x11 (ix2 f l))
        (fun l => x12 (ix2 0 l)) (fun l => x13 (ix2 0 l)) l := by
  frame_out
  canon_tiles x h
  all_goals
    refine (congrFun (show _ = group _ _ _ _ _ _ _ _ _ _ _ _ _ _ from rfl) x).trans ?_
    idx_vars x
    refine (group_at _ _ _ _ _ _ _ _ _ _ _ _ _ _ _ _).trans ?_
    pointwise
    obtain rfl : l = x1 := Fin.ext h1
    simp only [← h0]

/-- The index maps: the rows' windows follow the grid, the weights' windows stay. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![t.val, 0] ∧ t.val < 64 :=
  (by decide +kernel : ∀ t : Fin grid0.N, _)

/-- The result's index map. -/
theorem idx14 (t : Fin cfg0.N) : win0_14.index t = ![t.val, 0] ∧ t.val < 64 :=
  (idx t).2.2.2.2.2.2.2.2.2.2.2.2.2.2

variable (m : (ℓ : Loc nD τ sig) → Buf (Elt Ideal) ℓ) (c : Dev nD)

/-- The residual's rows, read through their block. -/
theorem blk0_at (t : Fin cfg0.N) (r : Fin 1024) (k : Fin 1024) (b : Fin 32) (s : Fin 2048)
    (hi : t.val * 1024 + r.val = b.val * 2048 + s.val) :
    iblk m c 0 t (ix2 r k) = m ((c : Thread nD τ).loc main_arg0) (ix3 b s k) :=
  Eq.trans (by blk_ext [iblk, idx t]) (x_at m c b s k ⟨b.val * 2048 + s.val, by omega⟩ rfl)

/-- The first mixer's rows, read through their block. -/
theorem blk1_at (t : Fin cfg0.N) (r : Fin 1024) (k : Fin 256) (b : Fin 32) (s : Fin 2048)
    (hi : t.val * 1024 + r.val = b.val * 2048 + s.val) :
    iblk m c 1 t (ix2 r k) = m ((c : Thread nD τ).loc main_arg1) (ix3 b s k) :=
  Eq.trans (by blk_ext [iblk, idx t]) (a_at m c b s k ⟨b.val * 2048 + s.val, by omega⟩ rfl)

/-- The second mixer's rows, read through their block. -/
theorem blk2_at (t : Fin cfg0.N) (r : Fin 1024) (k : Fin 512) (b : Fin 32) (s : Fin 2048)
    (hi : t.val * 1024 + r.val = b.val * 2048 + s.val) :
    iblk m c 2 t (ix2 r k) = m ((c : Thread nD τ).loc main_arg2) (ix3 b s (order k)) :=
  Eq.trans (by blk_ext [iblk, idx t]) (b_at m c b s k ⟨b.val * 2048 + s.val, by omega⟩ rfl)

/-- The third mixer's rows, read through their block. -/
theorem blk3_at (t : Fin cfg0.N) (r : Fin 1024) (k : Fin 256) (b : Fin 32) (s : Fin 2048)
    (hi : t.val * 1024 + r.val = b.val * 2048 + s.val) :
    iblk m c 3 t (ix2 r k) = m ((c : Thread nD τ).loc main_arg3) (ix3 b s k) :=
  Eq.trans (by blk_ext [iblk, idx t]) (c_at m c b s k ⟨b.val * 2048 + s.val, by omega⟩ rfl)

/-- The first mixer's rows of the projection, read through the block. -/
theorem blk4_at (t : Fin cfg0.N) (k : Fin 256) (l : Fin 1024) :
    iblk m c 4 t (ix2 k l) = m ((c : Thread nD τ).loc main_arg4) (ix2 ⟨k.val, by omega⟩ l) :=
  Eq.trans (by blk_ext [iblk, idx t]) (wa_at m c k l)

/-- The second mixer's rows of the projection, read through the block. -/
theorem blk5_at (t : Fin cfg0.N) (k : Fin 512) (l : Fin 1024) :
    iblk m c 5 t (ix2 k l) = m ((c : Thread nD τ).loc main_arg4) (ix2 ⟨256 + (order k).val, by omega⟩ l) :=
  Eq.trans (by blk_ext [iblk, idx t]) (wb_at m c k l)

/-- The third mixer's rows of the projection, read through the block. -/
theorem blk6_at (t : Fin cfg0.N) (k : Fin 256) (l : Fin 1024) :
    iblk m c 6 t (ix2 k l) = m ((c : Thread nD τ).loc main_arg4) (ix2 ⟨768 + k.val, by omega⟩ l) :=
  Eq.trans (by blk_ext [iblk, idx t]) (wc_at m c k l)

/-- The first norm's gain, read through the block. -/
theorem blk7_at (t : Fin cfg0.N) (l : Fin 1024) :
    iblk m c 7 t (ix2 0 l) = m ((c : Thread nD τ).loc main_arg5) (ix1 l) :=
  Eq.trans (by blk_ext [iblk, idx t]) (g1_at m c l)

/-- The first norm's bias, read through the block. -/
theorem blk8_at (t : Fin cfg0.N) (l : Fin 1024) :
    iblk m c 8 t (ix2 0 l) = m ((c : Thread nD τ).loc main_arg6) (ix1 l) :=
  Eq.trans (by blk_ext [iblk, idx t]) (b1_at m c l)

/-- The gate's weights, read through the block. -/
theorem blk9_at (t : Fin cfg0.N) (k : Fin 1024) (l : Fin 2816) :
    iblk m c 9 t (ix2 k l) = m ((c : Thread nD τ).loc main_arg7) (ix2 k l) :=
  Eq.trans (by blk_ext [iblk, idx t]) (wg_at m c k l)

/-- The up projection's weights, read through the block. -/
theorem blk10_at (t : Fin cfg0.N) (k : Fin 1024) (l : Fin 2816) :
    iblk m c 10 t (ix2 k l) = m ((c : Thread nD τ).loc main_arg8) (ix2 k l) :=
  Eq.trans (by blk_ext [iblk, idx t]) (wu_at m c k l)

/-- The down projection's weights, read through the block. -/
theorem blk11_at (t : Fin cfg0.N) (k : Fin 2816) (l : Fin 1024) :
    iblk m c 11 t (ix2 k l) = m ((c : Thread nD τ).loc main_arg9) (ix2 k l) :=
  Eq.trans (by blk_ext [iblk, idx t]) (wd_at m c k l)

/-- The second norm's gain, read through the block. -/
theorem blk12_at (t : Fin cfg0.N) (l : Fin 1024) :
    iblk m c 12 t (ix2 0 l) = m ((c : Thread nD τ).loc main_arg10) (ix1 l) :=
  Eq.trans (by blk_ext [iblk, idx t]) (g2_at m c l)

/-- The second norm's bias, read through the block. -/
theorem blk13_at (t : Fin cfg0.N) (l : Fin 1024) :
    iblk m c 13 t (ix2 0 l) = m ((c : Thread nD τ).loc main_arg11) (ix1 l) :=
  Eq.trans (by blk_ext [iblk, idx t]) (b2_at m c l)

/-- The result at batch `b`, position `s` and column `l`, from the arguments: the three mixers' rows times their rows of
    the projection (the second mixer's in the rearranged order), the norm, the feed-forward part and the second norm. -/
def row (x0 : S32x2048x1024.Idx → EReal) (x1 : S32x2048x256.Idx → EReal) (x2 : S32x2048x512.Idx → EReal)
    (x3 : S32x2048x256.Idx → EReal) (x4 : S1024x1024.Idx → EReal) (x5 x6 : S1024.Idx → EReal)
    (x7 x8 : S1024x2816.Idx → EReal) (x9 : S2816x1024.Idx → EReal) (x10 x11 : S1024.Idx → EReal)
    (b : Fin 32) (s : Fin 2048) : Fin 1024 → EReal :=
  last (addNorm (fun k => x0 (ix3 b s k))
      (mix (fun k => x1 (ix3 b s k)) (fun k => x2 (ix3 b s (order k))) (fun k => x3 (ix3 b s k))
        (fun k l => x4 (ix2 ⟨k.val, by omega⟩ l)) (fun k l => x4 (ix2 ⟨256 + (order k).val, by omega⟩ l))
        fun k l => x4 (ix2 ⟨768 + k.val, by omega⟩ l))
      (fun l => x5 (ix1 l)) (fun l => x6 (ix1 l)))
    (fun k f => x7 (ix2 k f)) (fun k f => x8 (ix2 k f)) (fun f l => x9 (ix2 f l))
    (fun l => x10 (ix1 l)) (fun l => x11 (ix1 l))

/-- The result array over the arguments. -/
theorem final : (dats m 0 c).arrAt 14 cfg0.N = fun i : S65536x1024.Idx =>
    row (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      ⟨(i 0).val / 2048, by have := (i 0).isLt; simp only [S65536x1024] at this; change _ < 65536 at this; omega⟩
      ⟨(i 0).val % 2048, by omega⟩ ⟨(i 1).val, (i 1).isLt⟩ := by
  refine (dats m 0 c).arrAt_eq_of_covers 14 _ (by decide +kernel) fun t _ y => ?_
  blk_simp
  rw [after0_14]
  idx_vars y
  refine (block_at _ _ _ _ _ _ _ _ _ _ _ _ _ _ _ _).trans ?_
  obtain ⟨h14, ht⟩ := idx14 t
  simp only [h14, Matrix.cons_val_zero, Matrix.cons_val_one]
  have hb : t.val * 1024 + y0.val = (t.val * 1024 + y0.val) / 2048 * 2048 + (t.val * 1024 + y0.val) % 2048 := by omega
  simp only [fun k => blk0_at m c t y0 k ⟨_, by omega⟩ ⟨_, by omega⟩ hb,
    fun k => blk1_at m c t y0 k ⟨_, by omega⟩ ⟨_, by omega⟩ hb,
    fun k => blk2_at m c t y0 k ⟨_, by omega⟩ ⟨_, by omega⟩ hb,
    fun k => blk3_at m c t y0 k ⟨_, by omega⟩ ⟨_, by omega⟩ hb,
    blk4_at, blk5_at, blk6_at, blk7_at, blk8_at, blk9_at, blk10_at, blk11_at, blk12_at, blk13_at]
  exact congrArg (last _ _ _ _ _ _) (Fin.ext (show y1.val = 0 * 1024 + y1.val by omega))

end Cert.PostIdeal.Row

end
-- ==== Proof.PostRef.lean ====
/- The reference of the last call at an index: the same row functions as the call's result. -/
module

public import proofs.«01_k».proof.Proof.Gen.PostRefIdeal.Run
public import proofs.«01_k».proof.Proof.PostValue

@[expose] public section

set_option maxRecDepth 16384

noncomputable section

namespace Cert.PostRefIdeal.Row

open Cert.PostRefIdeal Cert.PostRefIdeal.Gen Cert.PostRefIdeal.Value
open Idealize.ShloMosaic Idealize.ShloMosaic.TcCoe Idealize.SL.Sem Cert.PostRow Idealize.ShloMosaic.StableHlo
open Cert.PostIdeal.Row (order)

/-- The rearranged order visits every row of the second mixer once. -/
theorem order_bij : Function.Bijective order :=
  Finite.injective_iff_bijective.1 fun p q h => by
    have h' := congrArg Fin.val h
    simp only [order] at h'
    exact Fin.ext (by omega)

/-- A sum over the 1024 rows of the projection, split by mixer; the second mixer's rows may come in any order. -/
theorem sum_mix (a : Fin 256 → EReal) (b : Fin 512 → EReal) (c : Fin 256 → EReal) (w : Fin 1024 → EReal) :
    ∑ x : Fin 1024, (if h : x.val < 256 then a ⟨x.val, h⟩ else
        if h : x.val - 256 < 512 then b ⟨x.val - 256, h⟩ else c ⟨x.val - 256 - 512, by omega⟩) * w x
      = ∑ k : Fin 256, a k * w ⟨k.val, by omega⟩ + ∑ k : Fin 512, b (order k) * w ⟨256 + (order k).val, by omega⟩
        + ∑ k : Fin 256, c k * w ⟨768 + k.val, by omega⟩ := by
  rw [order_bij.sum_comp fun k : Fin 512 => b k * w ⟨256 + k.val, by omega⟩]
  refine (Fin.sum_univ_add (a := 256 + 512) (b := 256) _).trans ?_
  refine congrArg₂ (· + ·) ((Fin.sum_univ_add (a := 256) (b := 512) _).trans (congrArg₂ (· + ·) ?_ ?_)) ?_
  · refine Finset.sum_congr rfl fun k _ => ?_
    have hk : ((Fin.castAdd 256 (Fin.castAdd 512 k) : Fin 1024)).val < 256 := k.isLt
    rw [dif_pos hk]
    rfl
  · refine Finset.sum_congr rfl fun k _ => ?_
    have hv : ((Fin.castAdd 256 (Fin.natAdd 256 k) : Fin 1024)).val = 256 + k.val := rfl
    rw [dif_neg (by omega), dif_pos (by omega)]
    exact congrArg₂ (· * ·) (congrArg b (Fin.ext (by simp only [hv]; omega))) rfl
  · refine Finset.sum_congr rfl fun k _ => ?_
    have hv : ((Fin.natAdd (256 + 512) k : Fin 1024)).val = 768 + k.val := rfl
    rw [dif_neg (by omega), dif_neg (by omega)]
    exact congrArg₂ (· * ·) (congrArg c (Fin.ext (by simp only [hv]; omega))) (congrArg w (Fin.ext hv))

variable (V0 : Valuation τ sig (Elt Ideal))

/-- The scaled residual plus the projection, at an index. -/
theorem v4_at (x0 : S32x2048x1024.Idx → EReal) (x1 : S32x2048x256.Idx → EReal) (x2 : S32x2048x512.Idx → EReal)
    (x3 : S32x2048x256.Idx → EReal) (x4 : S1024x1024.Idx → EReal) (h0 : V0 (Proc.devRef .tc main_arg0) = x0)
    (h1 : V0 (Proc.devRef .tc main_arg1) = x1) (h2 : V0 (Proc.devRef .tc main_arg2) = x2)
    (h3 : V0 (Proc.devRef .tc main_arg3) = x3) (h4 : V0 (Proc.devRef .tc main_arg4) = x4)
    (b : Fin 32) (s : Fin 2048) (l : Fin 1024) :
    res_main_v4 V0 (ix3 b s l)
      = Ideal.ofBits FTy.f32 0x3FD744FD#32 * x0 (ix3 b s l)
        + mix (fun k => x1 (ix3 b s k)) (fun k => x2 (ix3 b s (order k))) (fun k => x3 (ix3 b s k))
            (fun k l => x4 (ix2 ⟨k.val, by omega⟩ l)) (fun k l => x4 (ix2 ⟨256 + (order k).val, by omega⟩ l))
            (fun k l => x4 (ix2 ⟨768 + k.val, by omega⟩ l)) l := by
  subst h0 h1 h2 h3 h4
  pointwise [res_main_v4]
  exact congrArg _ (sum_mix
    (fun k => (V0 (Proc.devRef .tc main_arg1) : S32x2048x256.Idx → EReal) (ix3 b s k))
    (fun k => (V0 (Proc.devRef .tc main_arg2) : S32x2048x512.Idx → EReal) (ix3 b s k))
    (fun k => (V0 (Proc.devRef .tc main_arg3) : S32x2048x256.Idx → EReal) (ix3 b s k))
    fun k => (V0 (Proc.devRef .tc main_arg4) : S1024x1024.Idx → EReal) (ix2 k l))

/-- The row after the first norm, from the row before it. -/
theorem v28_at (b : Fin 32) (s : Fin 2048) (l : Fin 1024) :
    res_main_v28 V0 (ix3 b s l) = norm (fun k => res_main_v4 V0 (ix3 b s k))
      (fun k => (V0 (Proc.devRef .tc main_arg5) : S1024.Idx → EReal) (ix1 k))
      (fun k => (V0 (Proc.devRef .tc main_arg6) : S1024.Idx → EReal) (ix1 k)) l := by
  pointwise [res_main_v28, res_main_v10, res_main_v8]
  rfl

/-- The row before the second norm, from the row after the first. -/
theorem v36_at (b : Fin 32) (s : Fin 2048) (l : Fin 1024) :
    res_main_v36 V0 (ix3 b s l)
      = Ideal.ofBits FTy.f32 0x3FD744FD#32 * (res_main_v28 V0 (ix3 b s l) : EReal)
        + ffn (fun k => res_main_v28 V0 (ix3 b s k))
            (fun k f => (V0 (Proc.devRef .tc main_arg7) : S1024x2816.Idx → EReal) (ix2 k f))
            (fun k f => (V0 (Proc.devRef .tc main_arg8) : S1024x2816.Idx → EReal) (ix2 k f))
            (fun f l => (V0 (Proc.devRef .tc main_arg9) : S2816x1024.Idx → EReal) (ix2 f l)) l := by
  pointwise [res_main_v36, res_main_v29]
  rfl

/-- The result over the arguments: the second norm of the row before it. -/
def out : S65536x1024.Idx → EReal :=
  shapeCast _ (addf (mulf (mulf (subf (res_main_v36 V0) (broadcastInDim S32x2048x1024 ![0, 1, 2] bcast_S32x2048x1_S32x2048x1024_0_1_2 (res_main_v40 V0))) (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf (res_main_v42 V0) (res_main_v42 V0)) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x3727C5AC#32)))))) (broadcastInDim S32x2048x1024 ![0, 1, 2] bcast_S1x1x1024_S32x2048x1024_0_1_2 (broadcastInDim S1x1x1024 ![2] bcast_S1024_S1x1x1024_2 (V0 (Proc.devRef .tc main_arg10))))) (broadcastInDim S32x2048x1024 ![0, 1, 2] bcast_S1x1x1024_S32x2048x1024_0_1_2 (broadcastInDim S1x1x1024 ![2] bcast_S1024_S1x1x1024_2 (V0 (Proc.devRef .tc main_arg11))))) shapeCasts_S32x2048x1024_S65536x1024

/-- The result at a row and a column is the row function the call computes. -/
theorem out_at (x0 : S32x2048x1024.Idx → EReal) (x1 : S32x2048x256.Idx → EReal) (x2 : S32x2048x512.Idx → EReal)
    (x3 : S32x2048x256.Idx → EReal) (x4 : S1024x1024.Idx → EReal) (x5 x6 : S1024.Idx → EReal)
    (x7 x8 : S1024x2816.Idx → EReal) (x9 : S2816x1024.Idx → EReal) (x10 x11 : S1024.Idx → EReal)
    (h0 : V0 (Proc.devRef .tc main_arg0) = x0)
    (h1 : V0 (Proc.devRef .tc main_arg1) = x1) (h2 : V0 (Proc.devRef .tc main_arg2) = x2)
    (h3 : V0 (Proc.devRef .tc main_arg3) = x3) (h4 : V0 (Proc.devRef .tc main_arg4) = x4)
    (h5 : V0 (Proc.devRef .tc main_arg5) = x5) (h6 : V0 (Proc.devRef .tc main_arg6) = x6)
    (h7 : V0 (Proc.devRef .tc main_arg7) = x7) (h8 : V0 (Proc.devRef .tc main_arg8) = x8)
    (h9 : V0 (Proc.devRef .tc main_arg9) = x9) (h10 : V0 (Proc.devRef .tc main_arg10) = x10)
    (h11 : V0 (Proc.devRef .tc main_arg11) = x11) (i : Fin 65536) (l : Fin 1024) :
    out V0 (ix2 i l) = Cert.PostIdeal.Row.row x0 x1 x2 x3 x4 x5 x6 x7 x8 x9 x10 x11
      ⟨i.val / 2048, by omega⟩ ⟨i.val % 2048, by omega⟩ l := by
  subst h5 h6 h7 h8 h9 h10 h11
  pointwise [out, res_main_v42, res_main_v40]
  simp only [v36_at, v28_at, v4_at V0 x0 x1 x2 x3 x4 h0 h1 h2 h3 h4]
  rfl

end Cert.PostRefIdeal.Row

end
-- ==== Proof.PostClaim.lean ====
/- The last call against its reference: equal results from launches that agree on the arguments. -/
module

public import proofs.«01_k».proof.Defs
public import proofs.«01_k».proof.Proof.PostRef
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The last call computes what its reference computes, over the extended reals. -/
theorem post_algebraic : Cert.algebraic_PostIdeal_PostRefIdeal := by
  intro m ρ m' ρ' _ hagree
  refine ⟨_, Cert.PostIdeal.Value.run_blocks (F := Ideal) m ρ, ?_⟩
  refine (θ_run Cert.PostRefIdeal.defs _ _).mono (fun _ h c => ⟨?_, (h c).2⟩)
    (Cert.PostRefIdeal.Value.run (F := Ideal) m' ρ')
  rw [(h c).1]
  obtain ⟨e0, e1, e2, e3, e4, e5, e6, e7, e8, e9, e10, e11⟩ := hagree c
  refine Eq.trans ?_ (Cert.PostIdeal.Row.final m c).symm
  funext i
  idx_vars i
  exact Cert.PostRefIdeal.Row.out_at _ _ _ _ _ _ _ _ _ _ _ _ _ e0 e1 e2 e3 e4 e5 e6 e7 e8 e9 e10 e11 _ _

end Cert.Proof

end
-- ==== Proof.ProjRow.lean ====
/- The rows of the input projection, the rotations, the head norms and the spatial gating: what the body of the call
   computes for each group of 256 rows, lane by lane. -/
module

public import proofs.«01_k».proof.Proof.Gen.ProjIdeal.Skeleton
public import Idealize.ShloMosaic.Lib.Pointwise

@[expose] public section

set_option maxRecDepth 16384

noncomputable section

namespace Cert.ProjIdeal.Row

open Cert.ProjIdeal Cert.ProjIdeal.Gen Idealize.ShloMosaic Idealize.ShloMosaic.TcCoe Idealize.SL.Sem

/-- The lane a rotation pairs with lane `l`: the one 64 away. -/
def turn (l : Fin 128) : Fin 128 := ⟨(l.val + 128 - 64) % 128, by omega⟩

/-- The rotation of 128 lanes by their cosines and signed sines. -/
def rope (h cos sin : Fin 128 → EReal) (l : Fin 128) : EReal := h l * cos l + h (turn l) * sin l

/-- The norm of 128 lanes holding two heads: each lane over the root mean square of its own head's 64, times the gain. -/
def rms (h g : Fin 128 → EReal) (l : Fin 128) : EReal :=
  h l * Ideal.rsqrt ((∑ k, if k.val % 64 / 32 = l.val % 64 / 32 then h k * h k else 0)
    * Ideal.ofBits FTy.f32 0x3C800000#32 + Ideal.ofBits FTy.f32 0x3727C5AC#32) * g l

/-- The rounded-tangent form of the Gaussian gate. -/
def gelu (x : EReal) : EReal :=
  x * (Ideal.ofBits FTy.f32 0x3F000000#32 * (1 + Ideal.tanh (Ideal.ofBits FTy.f32 0x3F4C422A#32
    * (x + Ideal.ofBits FTy.f32 0x3D372713#32 * (x * x * x)))))

/-- The norm of 256 entries with gain `g` and bias `b`. -/
def norm (z g b : Fin 256 → EReal) (l : Fin 256) : EReal :=
  (z l - Ideal.div (∑ k, z k) (Ideal.ofBits FTy.f32 0x43800000#32)) *
      Ideal.rsqrt (Ideal.div
          (∑ k, (z k - Ideal.div (∑ j, z j) (Ideal.ofBits FTy.f32 0x43800000#32)) *
            (z k - Ideal.div (∑ j, z j) (Ideal.ofBits FTy.f32 0x43800000#32)))
          (Ideal.ofBits FTy.f32 0x43800000#32) + Ideal.ofBits FTy.f32 0x3727C5AC#32) * g l + b l

/-- The lanes of the first of two heads. -/
theorem first_at (r : Fin 256) (l : Fin 128) : k0_pay2 (ix2 r l) = if l.val % 64 / 32 = 0 then 1#1 else 0#1 := by
  pointwise [k0_pay2]
  revert l
  decide +kernel

/-- The group of 64 columns a column lies in. -/
def groups : IVec S128x256 32 :=
  k0_pay5 (iota Kind.tc S128x256 32 [1] iota_S128x256_d1_w32) (64#32) k0_pay3 k0_pay4 1#1

/-- The group of a column, at an index. -/
theorem groups_at (p : Fin 128) (d : Fin 256) : groups (ix2 p d) = BitVec.ofNat 32 (d.val / 64) := by
  pointwise [groups, k0_pay5, k0_pay3, k0_pay4]
  revert d
  decide +kernel

/-- The rotation, over the loaded columns and the loaded rows of the tables. -/
def turned (cos sin : Vec Ideal S1x256x128 .f32) (h : Vec Ideal S256x128 .f32) : FVec Ideal S256x128 .bf16 :=
  k0_pay10 (k0_pay8 cos) sin h

/-- The rotation, at a row and a lane. -/
theorem turned_at (cos sin : Vec Ideal S1x256x128 .f32) (h : Vec Ideal S256x128 .f32) (r : Fin 256) (l : Fin 128) :
    turned cos sin h (ix2 r l)
      = rope (fun k => h (ix2 r k)) (fun k => cos (ix3 0 r k)) (fun k => sin (ix3 0 r k)) l := by
  pointwise [turned, k0_pay10, k0_pay8, k0_pay9]
  rfl

/-- The rotation, transposed. -/
def turnedT (cos sin : Vec Ideal S1x256x128 .f32) (h : Vec Ideal S256x128 .f32) : FVec Ideal S128x256 .bf16 :=
  k0_pay11 (k0_pay8 cos) sin h

/-- The transposed rotation, at a lane and a row. -/
theorem turnedT_at (cos sin : Vec Ideal S1x256x128 .f32) (h : Vec Ideal S256x128 .f32) (r : Fin 256) (l : Fin 128) :
    turnedT cos sin h (ix2 l r)
      = rope (fun k => h (ix2 r k)) (fun k => cos (ix3 0 r k)) (fun k => sin (ix3 0 r k)) l := by
  pointwise [turnedT, k0_pay11, k0_pay8, k0_pay9]
  rfl

/-- A choice by a flag that says whether `p` holds. -/
theorem sel (p : Prop) [Decidable p] (a b : EReal) :
    Scalar.select (if p then 1#1 else 0#1) a b = if p then a else b := by
  split <;> rfl

/-- The sum of a lane's own head's 64 squares, as the body picks it from the two heads' sums. -/
theorem squares (r : Fin 256) (l : Fin 128) (f : Fin 128 → EReal) :
    Scalar.select (k0_pay2 (ix2 r l)) (∑ x, Scalar.select (k0_pay2 (ix2 r x)) (f x) 0 : EReal)
        (∑ x, Scalar.select (k0_pay2 (ix2 r x)) 0 (f x) : EReal)
      = ∑ k : Fin 128, if k.val % 64 / 32 = l.val % 64 / 32 then f k else 0 := by
  simp only [first_at, sel]
  by_cases h : l.val % 64 / 32 = 0
  · rw [if_pos h, h]
  · rw [if_neg h]
    refine Finset.sum_congr rfl fun k _ => ?_
    by_cases hk : k.val % 64 / 32 = 0
    · rw [if_pos hk, if_neg (by omega)]
    · rw [if_neg hk, if_pos (by omega)]

/-- The normed heads, rotated. -/
def query (cos sin : Vec Ideal S1x256x128 .f32) (g : Vec Ideal S1x128 .f32) (h : Vec Ideal S256x128 .f32) :
    FVec Ideal S256x128 .bf16 :=
  k0_pay18 k0_pay2 cos sin g h

/-- The normed heads, rotated, at a row and a lane. -/
theorem query_at (cos sin : Vec Ideal S1x256x128 .f32) (g : Vec Ideal S1x128 .f32) (h : Vec Ideal S256x128 .f32)
    (r : Fin 256) (l : Fin 128) :
    query cos sin g h (ix2 r l)
      = rope (rms (fun k => h (ix2 r k)) fun k => g (ix2 0 k)) (fun k => cos (ix3 0 r k))
          (fun k => sin (ix3 0 r k)) l := by
  pointwise [query, k0_pay18, k0_pay15, k0_pay16, k0_pay17]
  rw [squares r l fun k => h (ix2 r k) * h (ix2 r k), squares r _ fun k => h (ix2 r k) * h (ix2 r k)]
  rfl

/-- The normed heads, rotated and transposed. -/
def key (cos sin : Vec Ideal S1x256x128 .f32) (g : Vec Ideal S1x128 .f32) (h : Vec Ideal S256x128 .f32) :
    FVec Ideal S128x256 .bf16 :=
  k0_pay27 (k0_pay26 k0_pay2 (k0_pay15 cos) (k0_pay16 sin) h g)

/-- The normed heads, rotated and transposed, at a lane and a row. -/
theorem key_at (cos sin : Vec Ideal S1x256x128 .f32) (g : Vec Ideal S1x128 .f32) (h : Vec Ideal S256x128 .f32)
    (r : Fin 256) (l : Fin 128) :
    key cos sin g h (ix2 l r)
      = rope (rms (fun k => h (ix2 r k)) fun k => g (ix2 0 k)) (fun k => cos (ix3 0 r k))
          (fun k => sin (ix3 0 r k)) l := by
  pointwise [key, k0_pay27, k0_pay26, k0_pay15, k0_pay16]
  rw [squares r l fun k => h (ix2 r k) * h (ix2 r k), squares r _ fun k => h (ix2 r k) * h (ix2 r k)]
  rfl

/-- The gate's first factor, at a row and a column. -/
theorem gelu_at (u : Vec Ideal S256x256 .f32) (r d : Fin 256) : k0_pay29 u (ix2 r d) = gelu (u (ix2 r d)) := by
  pointwise [k0_pay29]
  rfl

/-- The normed second factor, over its loaded columns. -/
def normed (v : Vec Ideal S256x256 .f32) (g b : Vec Ideal S1x256 .f32) : FVec Ideal S256x256 .bf16 :=
  k0_pay32 (k0_pay30 v) (k0_pay31 g) b

/-- The normed second factor, at a row and a column. -/
theorem normed_at (v : Vec Ideal S256x256 .f32) (g b : Vec Ideal S1x256 .f32) (r d : Fin 256) :
    normed v g b (ix2 r d)
      = norm (fun d => gelu (v (ix2 r d))) (fun d => g (ix2 0 d)) (fun d => b (ix2 0 d)) d := by
  pointwise [normed, k0_pay32, k0_pay31]
  have hv : ∀ d, k0_pay30 v (ix2 r d) = gelu (v (ix2 r d)) := fun d => gelu_at v r d
  simp only [hv]
  rfl

/-- A choice by the group a column lies in. -/
theorem pick (q : Fin 128) (d : Fin 256) (n : Fin 4) (a b : EReal) :
    Scalar.select (IntOp.cmpi CmpIPredicate.eq (groups (ix2 q d)) (BitVec.ofNat 32 n.val)) a b
      = if d.val / 64 = n.val then a else b := by
  have h : IntOp.cmpi CmpIPredicate.eq (BitVec.ofNat 32 (d.val / 64)) (BitVec.ofNat 32 n.val)
      = if d.val / 64 = n.val then 1#1 else 0#1 := by
    revert d n
    decide +kernel
  rw [groups_at, h, sel]

/-- The four groups' mixed positions: of the four sums only the column's own group's is not zero. -/
theorem mixed (w : Vec Ideal S4x128x128 .bf16) (v : Fin 128 → EReal) (b : EReal) (p : Fin 128) (d : Fin 256) :
    b + (∑ q, Scalar.select (IntOp.cmpi CmpIPredicate.eq (groups (ix2 q d)) 0#32) (w (ix3 0 p q) * v q) 0 : EReal)
        + (∑ q, Scalar.select (IntOp.cmpi CmpIPredicate.eq (groups (ix2 q d)) 1#32) (w (ix3 1 p q) * v q) 0 : EReal)
        + (∑ q, Scalar.select (IntOp.cmpi CmpIPredicate.eq (groups (ix2 q d)) 2#32) (w (ix3 2 p q) * v q) 0 : EReal)
        + (∑ q, Scalar.select (IntOp.cmpi CmpIPredicate.eq (groups (ix2 q d)) 3#32) (w (ix3 3 p q) * v q) 0 : EReal)
      = b + ∑ q, w (ix3 ⟨d.val / 64, by omega⟩ p q) * v q := by
  have e : ∀ n : Fin 4, (∑ q, Scalar.select (IntOp.cmpi CmpIPredicate.eq (groups (ix2 q d)) (BitVec.ofNat 32 n.val))
      (w (ix3 n p q) * v q) 0 : EReal) = if d.val / 64 = n.val then ∑ q, w (ix3 n p q) * v q else 0 := fun n => by
    simp only [pick]
    split
    · rfl
    · exact Finset.sum_const_zero
  refine (congrArg₂ (· + ·) (congrArg₂ (· + ·) (congrArg₂ (· + ·) (congrArg (b + ·) (e 0)) (e 1)) (e 2)) (e 3)).trans ?_
  have h : ∃ n : Fin 4, d.val / 64 = n.val := ⟨⟨d.val / 64, by omega⟩, rfl⟩
  obtain ⟨n, h⟩ := h
  rw [show (⟨d.val / 64, by omega⟩ : Fin 4) = n from Fin.ext h, h]
  fin_cases n <;> simp

/-- The gated and mixed value of column `d` at position `p` of a chunk: the gate's first factor times the chunk's
    second factor mixed over its 128 positions by the column's group, plus the position's bias. -/
def gate (u : EReal) (v : Fin 128 → Fin 256 → EReal) (g b : Fin 256 → EReal) (w : Fin 128 → EReal) (s : EReal)
    (d : Fin 256) : EReal :=
  gelu u * (s + ∑ q, w q * norm (fun d => gelu (v q d)) g b d)

/-- The body's result for the first 128 of 256 rows. -/
def gateLo (u v : Vec Ideal S256x256 .f32) (g b : Vec Ideal S1x256 .f32) (w : Vec Ideal S4x128x128 .bf16)
    (s : Vec Ideal S128x256 .f32) : FVec Ideal S128x256 .bf16 :=
  k0_pay36 groups (k0_pay29 u) (k0_pay33 (k0_pay30 v) (k0_pay31 g) b) k0_pay34
    (k0_pay35 groups (k0_pay30 v) (k0_pay31 g) b s
      (View.ld w (Rect.unit ![0, 0, 0] ![1, 128, 128] inb_S4x128x128_S1x128x128_0_0_0))
      (View.ld w (Rect.unit ![1, 0, 0] ![1, 128, 128] inb_S4x128x128_S1x128x128_1_0_0)))
    (View.ld w (Rect.unit ![2, 0, 0] ![1, 128, 128] inb_S4x128x128_S1x128x128_2_0_0))
    (View.ld w (Rect.unit ![3, 0, 0] ![1, 128, 128] inb_S4x128x128_S1x128x128_3_0_0))

/-- The first 128 rows' result at a row and a column. -/
theorem gateLo_at (u v : Vec Ideal S256x256 .f32) (g b : Vec Ideal S1x256 .f32) (w : Vec Ideal S4x128x128 .bf16)
    (s : Vec Ideal S128x256 .f32) (p : Fin 128) (d : Fin 256) :
    gateLo u v g b w s (ix2 p d)
      = gate (u (ix2 ⟨p.val, by omega⟩ d)) (fun q d => v (ix2 ⟨q.val, by omega⟩ d)) (fun d => g (ix2 0 d))
          (fun d => b (ix2 0 d)) (fun q => w (ix3 ⟨d.val / 64, by omega⟩ p q)) (s (ix2 p d)) d := by
  have hn : k0_pay32 (k0_pay30 v) (k0_pay31 g) b = normed v g b := rfl
  pointwise [gateLo, k0_pay36, k0_pay35, k0_pay33, k0_pay34]
  simp only [hn, normed_at, gelu_at]
  rw [mixed w (fun q => norm (fun d => gelu (v (ix2 ⟨q.val, by omega⟩ d))) (fun d => g (ix2 0 d))
    (fun d => b (ix2 0 d)) d)]
  rfl

/-- The body's result for the last 128 of 256 rows. -/
def gateHi (u v : Vec Ideal S256x256 .f32) (g b : Vec Ideal S1x256 .f32) (w : Vec Ideal S4x128x128 .bf16)
    (s : Vec Ideal S128x256 .f32) : FVec Ideal S128x256 .bf16 :=
  k0_pay40 groups (k0_pay29 u) (k0_pay37 (normed v g b)) k0_pay38
    (k0_pay39 groups (normed v g b) s
      (View.ld w (Rect.unit ![0, 0, 0] ![1, 128, 128] inb_S4x128x128_S1x128x128_0_0_0))
      (View.ld w (Rect.unit ![1, 0, 0] ![1, 128, 128] inb_S4x128x128_S1x128x128_1_0_0)))
    (View.ld w (Rect.unit ![2, 0, 0] ![1, 128, 128] inb_S4x128x128_S1x128x128_2_0_0))
    (View.ld w (Rect.unit ![3, 0, 0] ![1, 128, 128] inb_S4x128x128_S1x128x128_3_0_0))

/-- The last 128 rows' result at a row and a column. -/
theorem gateHi_at (u v : Vec Ideal S256x256 .f32) (g b : Vec Ideal S1x256 .f32) (w : Vec Ideal S4x128x128 .bf16)
    (s : Vec Ideal S128x256 .f32) (p : Fin 128) (d : Fin 256) :
    gateHi u v g b w s (ix2 p d)
      = gate (u (ix2 ⟨128 + p.val, by omega⟩ d)) (fun q d => v (ix2 ⟨128 + q.val, by omega⟩ d)) (fun d => g (ix2 0 d))
          (fun d => b (ix2 0 d)) (fun q => w (ix3 ⟨d.val / 64, by omega⟩ p q)) (s (ix2 p d)) d := by
  pointwise [gateHi, k0_pay40, k0_pay39, k0_pay37, k0_pay38]
  simp only [normed_at, gelu_at]
  rw [mixed w (fun q => norm (fun d => gelu (v (ix2 ⟨128 + q.val, by omega⟩ d))) (fun d => g (ix2 0 d))
    (fun d => b (ix2 0 d)) d)]
  rfl

end Cert.ProjIdeal.Row

end
-- ==== Proof.ProjBlock.lean ====
/- What a step of the input projection's kernel writes to its seven result blocks, over the blocks it reads. -/
module

public import proofs.«01_k».proof.Proof.Gen.ProjIdeal.Value
public import proofs.«01_k».proof.Proof.ProjRow
public import Idealize.ShloMosaic.Lib.Pipeline.ValueKit
public import Idealize.ShloMosaic.Lib.Pipeline.ReadBack

@[expose] public section

set_option maxRecDepth 16384

noncomputable section

namespace Cert.ProjIdeal.Row

open Cert.ProjIdeal Cert.ProjIdeal.Gen Idealize.ShloMosaic Idealize.ShloMosaic.TcCoe Idealize.SL.Sem
open Idealize.ShloMosaic.Pipeline (Dat)

/-- A row of the projection over a block of rows. -/
def hrow (x : Vec Ideal S1024x1024 .f32) (w : Vec Ideal S1024x2048 .bf16) (r : Fin 1024) (k : Fin 2048) : EReal :=
  ∑ e, x (ix2 r e) * w (ix2 e k)

/-- A segment of 128 columns of a row. -/
def seg (h : Fin 2048 → EReal) (g : Fin 16) (k : Fin 128) : EReal := h ⟨g.val * 128 + k.val, by omega⟩

/-- A group of 256 rows' projection, at a row and a column. -/
theorem proj_at (x : Vec Ideal S1024x1024 .f32) (w : Vec Ideal S1024x2048 .bf16) {R : ℕ}
    (inb : ∀ a, (![R, 0] : Fin 2 → ℕ) a + (![256, 1024] : Fin 2 → ℕ) a ≤ S1024x1024.size a) (r : Fin 1024)
    (r' : Fin 256) (hr : r.val = R + r'.val) (k : Fin 2048) :
    k0_pay6 (F := Ideal) (View.ld x (Rect.unit ![R, 0] ![256, 1024] inb)) w (ix2 r' k) = hrow x w r k := by
  pointwise [k0_pay6]
  exact Finset.sum_congr rfl fun e _ => congrArg (fun q => x (ix2 q e) * w (ix2 e k)) (Fin.ext hr.symm)

/-- A load of columns of a group's projection, from the scratch buffer the projection is stored in. -/
theorem load_at (b : View sig .tc .vmem S256x2048 .f32) (v : Vec Ideal S256x2048 .f32) (ps) {o n : ℕ}
    (inb : ∀ a, (![0, o] : Fin 2 → ℕ) a + (![256, n] : Fin 2 → ℕ) a ≤ S256x2048.size a) (r : Fin 256) (l : Fin n)
    (k : Fin 2048) (hk : k.val = o + l.val) :
    b.readCov (⟨Rect.unit ![0, 0] ![256, 2048] inb_S256x2048_S256x2048_0_0, v⟩ :: ps)
      (Rect.unit (s := S256x2048) (![0, o] : Fin 2 → ℕ) (![256, n] : Fin 2 → ℕ) inb).toLoadRect (ix2 r l)
      = v (ix2 r k) := by
  have h := View.readCov_fill (s := S256x2048) b (off := ![0, 0]) inb_S256x2048_S256x2048_0_0 v ps
    (Rect.unit (s := S256x2048) (![0, o] : Fin 2 → ℕ) (![256, n] : Fin 2 → ℕ) inb)
    (fun a => match a with | ⟨0, _⟩ => rfl | ⟨1, _⟩ => rfl)
  refine (congrFun h (ix2 r l)).trans ?_
  refine congrArg v ?_
  funext a
  refine Fin.ext ?_
  match a with
  | ⟨0, _⟩ => show 0 + 1 * r.val = r.val; omega
  | ⟨1, _⟩ => show o + 1 * l.val = k.val; omega

/-- A load of columns of a group's projection is the block's projection there. -/
theorem load_proj (b : View sig .tc .vmem S256x2048 .f32) (v : Vec Ideal S256x2048 .f32) (ps)
    (x : Vec Ideal S1024x1024 .f32) (w : Vec Ideal S1024x2048 .bf16) {R o n : ℕ}
    (inb' : ∀ a, (![R, 0] : Fin 2 → ℕ) a + (![256, 1024] : Fin 2 → ℕ) a ≤ S1024x1024.size a)
    (hv : v = k0_pay6 (F := Ideal) (View.ld x (Rect.unit ![R, 0] ![256, 1024] inb')) w)
    (inb : ∀ a, (![0, o] : Fin 2 → ℕ) a + (![256, n] : Fin 2 → ℕ) a ≤ S256x2048.size a) (r : Fin 1024) (r' : Fin 256)
    (hr : r.val = R + r'.val) (l : Fin n) (k : Fin 2048) (hk : k.val = o + l.val) :
    b.readCov (⟨Rect.unit ![0, 0] ![256, 2048] inb_S256x2048_S256x2048_0_0, v⟩ :: ps)
      (Rect.unit (s := S256x2048) (![0, o] : Fin 2 → ℕ) (![256, n] : Fin 2 → ℕ) inb).toLoadRect (ix2 r' l)
      = hrow x w r k := by
  rw [load_at b v ps inb r' l k hk, hv, proj_at x w inb' r r' hr]

/-- A load of rows of one plane of a rotation table. -/
theorem tab_at (tab : Vec Ideal S2x2048x128 .f32) {z q : ℕ} {off : Fin 3 → ℕ} (hoff : off = ![z, q, 0])
    (inb : ∀ a, off a + (![1, 256, 128] : Fin 3 → ℕ) a ≤ S2x2048x128.size a) (r : Fin 256) (k : Fin 128)
    (z' : Fin 2) (hz : z'.val = z) (p : Fin 2048) (hp : p.val = q + r.val) :
    View.ld tab (Rect.unit (s := S2x2048x128) off (![1, 256, 128] : Fin 3 → ℕ) inb) (ix3 0 r k)
      = tab (ix3 z' p k) := by
  subst hoff
  refine congrArg tab ?_
  funext a
  refine Fin.ext ?_
  match a with
  | ⟨0, _⟩ => show z + 1 * 0 = z'.val; omega
  | ⟨1, _⟩ => show q + 1 * r.val = p.val; omega
  | ⟨2, _⟩ => show 0 + 1 * k.val = k.val; omega

/-- The cosines' offsets at a step, sub-block by sub-block. -/
theorem off_cos : ∀ t : Fin cfg0.N, ∀ j : Fin 4, k0_off1 (grid0.coords t) (BitVec.ofNat 32 (256 * j.val))
    = ![0, t.val % 2 * 1024 + 256 * j.val, 0] := by decide +kernel

/-- The sines' offsets at a step, sub-block by sub-block. -/
theorem off_sin : ∀ t : Fin cfg0.N, ∀ j : Fin 4, k0_off2 (grid0.coords t) (BitVec.ofNat 32 (256 * j.val))
    = ![1, t.val % 2 * 1024 + 256 * j.val, 0] := by decide +kernel

/-- A stored copy of 256 loaded columns, at an index. -/
theorem copy_256 (h : Vec Ideal S256x256 .f32) (i : S256x256.Idx) : k0_pay14 h i = h i := by
  pointwise [k0_pay14]

/-- A stored copy of 128 loaded columns, at an index. -/
theorem copy_128 (h : Vec Ideal S256x128 .f32) (i : S256x128.Idx) : k0_pay28 h i = h i := by
  pointwise [k0_pay28]

/-- A block's row's place in its sequence. -/
def place (t : Fin cfg0.N) (r : Fin 1024) : Fin 2048 := ⟨t.val % 2 * 1024 + r.val, by omega⟩

/-- The rotation over loaded columns and loaded tables is the rotation over the block's row. -/
theorem rope_loaded (f : (Fin 128 → EReal) → Fin 128 → EReal) (b : View sig .tc .vmem S256x2048 .f32)
    (v : Vec Ideal S256x2048 .f32) (ps : List (View.Piece (Elt Ideal) S256x2048 .f32))
    (x : Vec Ideal S1024x1024 .f32) (w : Vec Ideal S1024x2048 .bf16) (tab : Vec Ideal S2x2048x128 .f32)
    (t : Fin cfg0.N) {o R : ℕ} {q : BitVec 32}
    (inb' : ∀ a, (![R, 0] : Fin 2 → ℕ) a + (![256, 1024] : Fin 2 → ℕ) a ≤ S1024x1024.size a)
    (inb : ∀ a, (![0, o] : Fin 2 → ℕ) a + (![256, 128] : Fin 2 → ℕ) a ≤ S256x2048.size a)
    (inbc : ∀ a, k0_off1 (grid0.coords t) q a + (![1, 256, 128] : Fin 3 → ℕ) a ≤ S2x2048x128.size a)
    (inbs : ∀ a, k0_off2 (grid0.coords t) q a + (![1, 256, 128] : Fin 3 → ℕ) a ≤ S2x2048x128.size a)
    (r : Fin 1024) (r' : Fin 256) (g : Fin 16) (l l' : Fin 128)
    (hv : v = k0_pay6 (F := Ideal) (View.ld x (Rect.unit ![R, 0] ![256, 1024] inb')) w) (hr : r.val = R + r'.val)
    (hR : R % 256 = 0) (hq : BitVec.ofNat 32 R = q) (hg : g.val * 128 = o) (hl : l = l') :
    rope (f fun k => b.readCov (⟨Rect.unit ![0, 0] ![256, 2048] inb_S256x2048_S256x2048_0_0, v⟩ :: ps)
          (Rect.unit (s := S256x2048) (![0, o] : Fin 2 → ℕ) (![256, 128] : Fin 2 → ℕ) inb).toLoadRect (ix2 r' k))
        (fun k => View.ld tab (Rect.unit (k0_off1 (grid0.coords t) q) ![1, 256, 128] inbc) (ix3 0 r' k))
        (fun k => View.ld tab (Rect.unit (k0_off2 (grid0.coords t) q) ![1, 256, 128] inbs) (ix3 0 r' k)) l'
      = rope (f (seg (hrow x w r) g)) (fun k => tab (ix3 0 (place t r) k)) (fun k => tab (ix3 1 (place t r) k)) l := by
  obtain ⟨j, rfl⟩ : ∃ j : Fin 4, 256 * j.val = R := ⟨⟨R / 256, by omega⟩, by dsimp only; omega⟩
  subst hl hq
  congr 1
  · exact congrArg f (funext fun k =>
      load_proj b v ps x w inb' hv inb r r' hr k _ (show g.val * 128 + k.val = o + k.val by omega))
  · exact funext fun k => tab_at tab (off_cos t j) inbc r' k 0 rfl _
      (show t.val % 2 * 1024 + r.val = t.val % 2 * 1024 + 256 * j.val + r'.val by omega)
  · exact funext fun k => tab_at tab (off_sin t j) inbs r' k 1 rfl _
      (show t.val % 2 * 1024 + r.val = t.val % 2 * 1024 + 256 * j.val + r'.val by omega)

/-- The gated product over loaded columns is the gated product over the block's rows. -/
theorem gate_loaded (b : View sig .tc .vmem S256x2048 .f32) (v : Vec Ideal S256x2048 .f32)
    (ps ps' : List (View.Piece (Elt Ideal) S256x2048 .f32)) (x : Vec Ideal S1024x1024 .f32)
    (w : Vec Ideal S1024x2048 .bf16) (g e : Fin 256 → EReal) (ws : Vec Ideal S4x128x128 .bf16)
    (bs : Vec Ideal S128x256 .f32) {R : ℕ}
    (inb' : ∀ a, (![R, 0] : Fin 2 → ℕ) a + (![256, 1024] : Fin 2 → ℕ) a ≤ S1024x1024.size a)
    (r : Fin 1024) (r' : Fin 256) (f : Fin 128 → Fin 256) (p : Fin 128) (d d' : Fin 256)
    (hv : v = k0_pay6 (F := Ideal) (View.ld x (Rect.unit ![R, 0] ![256, 1024] inb')) w) (hr : r.val = R + r'.val)
    (hf : ∀ q, r.val / 128 * 128 + q.val = R + (f q).val) (hp : r.val % 128 = p.val) (hd : d = d') :
    gate (b.readCov (⟨Rect.unit ![0, 0] ![256, 2048] inb_S256x2048_S256x2048_0_0, v⟩ :: ps)
          (Rect.unit (s := S256x2048) (![0, 1536] : Fin 2 → ℕ) (![256, 256] : Fin 2 → ℕ)
            inb_S256x2048_S256x256_0_1536).toLoadRect (ix2 r' d'))
        (fun q d => b.readCov (⟨Rect.unit ![0, 0] ![256, 2048] inb_S256x2048_S256x2048_0_0, v⟩ :: ps')
          (Rect.unit (s := S256x2048) (![0, 1792] : Fin 2 → ℕ) (![256, 256] : Fin 2 → ℕ)
            inb_S256x2048_S256x256_0_1792).toLoadRect (ix2 (f q) d))
        g e (fun q => ws (ix3 ⟨d'.val / 64, by omega⟩ p q)) (bs (ix2 p d')) d'
      = gate (hrow x w r ⟨1536 + d.val, by omega⟩)
          (fun q d => hrow x w ⟨r.val / 128 * 128 + q.val, by omega⟩ ⟨1792 + d.val, by omega⟩)
          g e (fun q => ws (ix3 ⟨d.val / 64, by omega⟩ ⟨r.val % 128, by omega⟩ q))
          (bs (ix2 ⟨r.val % 128, by omega⟩ d)) d := by
  subst hd
  rw [show (⟨r.val % 128, by omega⟩ : Fin 128) = p from Fin.ext hp]
  congr 1
  · exact load_proj b v ps x w inb' hv _ r r' hr d _ rfl
  · exact funext fun q => funext fun d => load_proj b v ps' x w inb' hv _ _ (f q) (hf q) d _ rfl

variable (m : (ℓ : Loc nD τ sig) → Buf (Elt Ideal) ℓ) (c : Dev nD) (t : Fin cfg0.N)

/-- The queries' heads a block writes: the columns 0 to 255, rotated. -/
theorem block_10 (r : Fin 1024) (i : Fin 256) : (outsAt0 m c t).1 (ix2 r i)
    = rope (seg (hrow (iblk m c 0 t) (iblk m c 1 t) r) ⟨i.val / 128, by omega⟩)
        (fun k => iblk m c 2 t (ix3 0 (place t r) k)) (fun k => iblk m c 2 t (ix3 1 (place t r) k))
        ⟨i.val % 128, by omega⟩ := by
  unfold outsAt0; frame_out
  canon_tiles x h
  all_goals idx_vars x
  all_goals refine ((congrFun (show _ = turned _ _ _ from rfl) _).trans (turned_at _ _ _ _ _)).trans ?_
  all_goals refine rope_loaded (fun h => h) _ _ _ _ _ _ t _ _ _ _ r _ _ _ _ rfl ?_ rfl rfl ?_ (Fin.ext ?_)
  all_goals first | omega | (dsimp only; omega)

/-- The keys' heads a block writes: the columns 256 to 511, rotated and transposed. -/
theorem block_11 (r : Fin 1024) (i : Fin 256) : (outsAt0 m c t).2.1 (ix2 i r)
    = rope (seg (hrow (iblk m c 0 t) (iblk m c 1 t) r) ⟨2 + i.val / 128, by omega⟩)
        (fun k => iblk m c 2 t (ix3 0 (place t r) k)) (fun k => iblk m c 2 t (ix3 1 (place t r) k))
        ⟨i.val % 128, by omega⟩ := by
  unfold outsAt0; frame_out
  canon_tiles x h
  all_goals idx_vars x
  all_goals refine ((congrFun (show _ = turnedT _ _ _ from rfl) _).trans (turnedT_at _ _ _ _ _)).trans ?_
  all_goals refine rope_loaded (fun h => h) _ _ _ _ _ _ t _ _ _ _ r _ _ _ _ rfl ?_ rfl rfl ?_ (Fin.ext ?_)
  all_goals first | omega | (dsimp only; omega)

/-- The values' heads a block writes: the columns 512 to 767. -/
theorem block_12 (r : Fin 1024) (l : Fin 256) : (outsAt0 m c t).2.2.1 (ix2 r l)
    = hrow (iblk m c 0 t) (iblk m c 1 t) r ⟨512 + l.val, by omega⟩ := by
  unfold outsAt0; frame_out
  canon_tiles x h
  all_goals idx_vars x
  all_goals refine (copy_256 _ _).trans ?_
  all_goals exact load_proj _ _ _ _ _ _ (by rfl) _ _ _ (by omega) _ _ (show 512 + l.val = 512 + _ by omega)

/-- The grouped queries' heads a block writes: the columns 768 to 1279, normed and rotated. -/
theorem block_13 (r : Fin 1024) (i : Fin 512) : (outsAt0 m c t).2.2.2.1 (ix2 r i)
    = rope (rms (seg (hrow (iblk m c 0 t) (iblk m c 1 t) r) ⟨6 + i.val / 128, by omega⟩)
          fun k => iblk m c 4 t (ix2 0 k))
        (fun k => iblk m c 3 t (ix3 0 (place t r) k)) (fun k => iblk m c 3 t (ix3 1 (place t r) k))
        ⟨i.val % 128, by omega⟩ := by
  unfold outsAt0; frame_out
  canon_tiles x h
  all_goals idx_vars x
  all_goals refine ((congrFun (show _ = query _ _ _ _ from rfl) _).trans (query_at _ _ _ _ _ _)).trans ?_
  all_goals refine rope_loaded (fun h => rms h fun k => iblk m c 4 t (ix2 0 k)) _ _ _ _ _ _ t _ _ _ _ r _ _ _ _ rfl ?_ rfl rfl ?_ (Fin.ext ?_)
  all_goals first | omega | (dsimp only; omega)

/-- The grouped keys' heads a block writes: the columns 1280 to 1407, normed, rotated and transposed. -/
theorem block_14 (r : Fin 1024) (i : Fin 128) : (outsAt0 m c t).2.2.2.2.1 (ix2 i r)
    = rope (rms (seg (hrow (iblk m c 0 t) (iblk m c 1 t) r) 10) fun k => iblk m c 5 t (ix2 0 k))
        (fun k => iblk m c 3 t (ix3 0 (place t r) k)) (fun k => iblk m c 3 t (ix3 1 (place t r) k)) i := by
  unfold outsAt0; frame_out
  canon_tiles x h
  all_goals idx_vars x
  all_goals refine ((congrFun (show _ = key _ _ _ _ from rfl) _).trans (key_at _ _ _ _ _ _)).trans ?_
  all_goals refine rope_loaded (fun h => rms h fun k => iblk m c 5 t (ix2 0 k)) _ _ _ _ _ _ t _ _ _ _ r _ _ _ _ rfl ?_ rfl rfl ?_ (Fin.ext ?_)
  all_goals first | omega | (dsimp only; omega)

/-- The grouped values' heads a block writes: the columns 1408 to 1535. -/
theorem block_15 (r : Fin 1024) (l : Fin 128) : (outsAt0 m c t).2.2.2.2.2.1 (ix2 r l)
    = hrow (iblk m c 0 t) (iblk m c 1 t) r ⟨1408 + l.val, by omega⟩ := by
  unfold outsAt0; frame_out
  canon_tiles x h
  all_goals idx_vars x
  all_goals refine (copy_128 _ _).trans ?_
  all_goals exact load_proj _ _ _ _ _ _ (by rfl) _ _ _ (by omega) _ _ (show 1408 + l.val = 1408 + _ by omega)

/-- The gated columns a block writes: of each 128 rows, the columns 1536 to 1791 gating the mixed columns 1792 to 2047. -/
theorem block_16 (r : Fin 1024) (d : Fin 256) : (outsAt0 m c t).2.2.2.2.2.2 (ix2 r d)
    = gate (hrow (iblk m c 0 t) (iblk m c 1 t) r ⟨1536 + d.val, by omega⟩)
        (fun q d => hrow (iblk m c 0 t) (iblk m c 1 t) ⟨r.val / 128 * 128 + q.val, by omega⟩ ⟨1792 + d.val, by omega⟩)
        (fun d => iblk m c 6 t (ix2 0 d)) (fun d => iblk m c 7 t (ix2 0 d))
        (fun q => iblk m c 8 t (ix3 ⟨d.val / 64, by omega⟩ ⟨r.val % 128, by omega⟩ q))
        (iblk m c 9 t (ix2 ⟨r.val % 128, by omega⟩ d)) d := by
  unfold outsAt0; frame_out
  canon_tiles x h
  all_goals idx_vars x
  case' piece0 | piece2 | piece4 | piece6 =>
    refine ((congrFun (show _ = gateHi _ _ _ _ _ _ from rfl) _).trans (gateHi_at _ _ _ _ _ _ _ _)).trans ?_
  case' piece1 | piece3 | piece5 | piece7 =>
    refine ((congrFun (show _ = gateLo _ _ _ _ _ _ from rfl) _).trans (gateLo_at _ _ _ _ _ _ _ _)).trans ?_
  all_goals refine gate_loaded _ _ _ _ _ _ _ _ _ _ _ r _ _ _ _ _ rfl ?_ (fun q => ?_) ?_ (Fin.ext h1)
  all_goals first | omega | (dsimp only; omega)

end Cert.ProjIdeal.Row

end
-- ==== Proof.ProjHost.lean ====
/- The arrays the host prepares for the input projection's call, element by element over the arguments. -/
module

public import proofs.«01_k».proof.Proof.Gen.ProjIdeal.Value
public import proofs.«01_k».proof.Proof.GqaHost
public import Idealize.ShloMosaic.Lib.Pointwise
public import Idealize.ShloMosaic.Lib.Claim
public import Idealize.ShloMosaic.Lib.Pipeline.ValueKit

@[expose] public section

set_option maxRecDepth 16384

noncomputable section

namespace Cert.ProjIdeal.Row

open Cert.ProjIdeal Cert.ProjIdeal.Gen Idealize.ShloMosaic Idealize.ShloMosaic.TcCoe Idealize.SL.Sem
open Idealize.ShloMosaic.Pipeline (Dat)
open Cert.GqaIdeal.Row (placeOf)

/-- A gather of whole columns, read at a row and a column: the operand's column the start index names, clamped. -/
theorem gather_cols {α : Type} (x : S1024x2048.Idx → α) (idx : IVec S2048x1 32) (r : Fin 1024) (l : Fin 2048) :
    Host.gather gather_S1024x2048_S2048x1_S1024x2048_0_1_n_n_1_1_10241 x idx (ix2 r l)
      = x (ix2 r ⟨min (idx (ix2 l 0)).toInt.toNat 2047, by omega⟩) := by
  unfold Host.gather
  congr 1
  funext a
  refine Fin.ext ?_
  set d := gather_S1024x2048_S2048x1_S1024x2048_0_1_n_n_1_1_10241
  show d.start (ix2 r l) idx a + d.batchCoord (ix2 r l) a + d.offCoord (ix2 r l) a = _
  have h01 : a = 0 ∨ a = 1 := by
    match a with
    | ⟨0, _⟩ => exact Or.inl rfl
    | ⟨1, _⟩ => exact Or.inr rfl
  rw [GatherDims.batchCoord_eq_zero _ _ _
    (fun h => by simp [d, gather_S1024x2048_S2048x1_S1024x2048_0_1_n_n_1_1_10241] at h)]
  rcases h01 with rfl | rfl
  · unfold GatherDims.start
    rw [dif_neg (fun h => by simp [d, gather_S1024x2048_S2048x1_S1024x2048_0_1_n_n_1_1_10241] at h)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx (ix2 r l) ⟨List.idxOf (1 : Fin 2) d.startIndexMap,
        List.idxOf_lt_length_iff.2 (List.mem_singleton.mpr rfl)⟩ = ix2 l 0 := by
      funext b; refine Fin.ext ?_
      match b with
      | ⟨0, _⟩ => rfl
      | ⟨1, _⟩ => rfl
    rw [hsi]
    rfl

/-- A gather of single entries, read at an index: the operand's entry the start index names, clamped. -/
theorem gather_one {α : Type} (x : S64.Idx → α) (idx : IVec S128x1 32) (l : Fin 128) :
    Host.gather gather_S64_S128x1_S128_n_0_n_n_0_1_1 x idx (ix1 l)
      = x (ix1 ⟨min (idx (ix2 l 0)).toInt.toNat 63, by omega⟩) := by
  unfold Host.gather
  congr 1
  funext a
  refine Fin.ext ?_
  set d := gather_S64_S128x1_S128_n_0_n_n_0_1_1
  show d.start (ix1 l) idx a + d.batchCoord (ix1 l) a + d.offCoord (ix1 l) a = _
  obtain rfl : a = 0 := by
    match a with
    | ⟨0, _⟩ => rfl
  rw [GatherDims.batchCoord_eq_zero _ _ _ (fun h => by simp [d, gather_S64_S128x1_S128_n_0_n_n_0_1_1] at h)]
  rw [GatherDims.offCoord_eq_zero _ _ _ (fun h => ((GatherDims.mem_sKept _ _).mp h).1 (List.mem_singleton.mpr rfl))]
  simp only [Nat.add_zero]
  unfold GatherDims.start
  rw [dif_pos (show (0 : Fin 1) ∈ d.startIndexMap from List.mem_singleton.mpr rfl)]
  have hsi : d.siIdx (ix1 l) ⟨List.idxOf (0 : Fin 1) d.startIndexMap,
      List.idxOf_lt_length_iff.2 (List.mem_singleton.mpr rfl)⟩ = ix2 l 0 := by
    funext b; refine Fin.ext ?_
    match b with
    | ⟨0, _⟩ => rfl
    | ⟨1, _⟩ => rfl
  rw [hsi]
  rfl

/-- The place of a lane among its 32 rotated numbers, which are in the order (half, 16). -/
def spot (l : Fin 128) : Fin 32 := ⟨l.val / 64 * 16 + l.val % 16, by omega⟩

/-- A lane's column within its block of 128: the block's four groups of 32 are in the order (half, group, 16). -/
def within (l : ℕ) : ℕ := l % 64 / 16 * 32 + l / 64 * 16 + l % 16

/-- The column of the weights that the call's column `k` is: the rotated columns are rearranged within each block of
    128, the queries of the second mixer also from (head, group) to (group, head) order. -/
def source (k : ℕ) : ℕ :=
  if k < 512 ∨ 1280 ≤ k ∧ k < 1408 then k / 128 * 128 + within (k % 128)
  else if 768 ≤ k ∧ k < 1280 then 768 + ((k - 768) / 128 + k % 64 / 32 * 4) * 64
    + (k % 32 / 16 * 32 + k % 128 / 64 * 16 + k % 16)
  else k

/-- It is a column of the weights. -/
theorem source_lt (k : Fin 2048) : source k.val < 2048 := by
  revert k
  decide +kernel

/-- The constant table of column numbers. -/
theorem cols (k : Fin 2048) : (lit0 k).toInt.toNat = source k.val := by
  revert k
  decide +kernel

/-- The constant table of the gains' entries. -/
theorem gains (l : Fin 128) : (lit1 l).toInt.toNat = (placeOf l).val := by
  revert l
  decide +kernel

variable (m : (ℓ : Loc nD τ sig) → Buf (Elt Ideal) ℓ) (c : Dev nD)

/-- The buffers once the first mixer's tables are computed. -/
def entry1 : Valuation τ sig (Elt Ideal) := StableHlo.after hostOps0 fun b => m (c, b)

/-- The buffers once the rows' positions are computed. -/
def entry2 : Valuation τ sig (Elt Ideal) := StableHlo.after hostOps0_1 (entry1 m c)

/-- The buffers once the rows' tables are computed. -/
def entry3 : Valuation τ sig (Elt Ideal) := StableHlo.after hostOps0_2 (entry2 m c)

/-- The buffers once the columns' positions are computed. -/
def entry4 : Valuation τ sig (Elt Ideal) := StableHlo.after hostOps0_3 (entry3 m c)

/-- Five stretches of operations, one after the other. -/
theorem after_five (x y z u v : List (HloOp τ sig (Elt Ideal))) (σ : Valuation τ sig (Elt Ideal)) :
    StableHlo.after (List.flatten [x, y, z, u, v]) σ
      = StableHlo.after v (StableHlo.after u (StableHlo.after z (StableHlo.after y (StableHlo.after x σ)))) := by
  rw [show List.flatten [x, y, z, u, v] = x ++ (y ++ (z ++ (u ++ v))) by simp, StableHlo.after_append,
    StableHlo.after_append, StableHlo.after_append, StableHlo.after_append]

/-- The host's five stretches of operations, one after the other. -/
theorem V_split (b : Ref sig .tc) :
    V m c b = StableHlo.after hostOps0_4 (entry4 m c) (Proc.devRef .tc b) :=
  congrFun (after_five hostOps0 hostOps0_1 hostOps0_2 hostOps0_3 hostOps0_4 fun b => m (c, b)) (Proc.devRef .tc b)

/-- The rows' argument reaches the last stretch as it was. -/
theorem arg0_eq : entry4 m c (Proc.devRef .tc main_arg0) = m ((c : Thread nD τ).loc main_arg0) := by
  refine Eq.trans ?_ (V_main_arg0 m c)
  rw [V_split]
  entry_read
  rfl

/-- The weights' argument reaches the last stretch as it was. -/
theorem arg1_eq : entry4 m c (Proc.devRef .tc main_arg1) = m ((c : Thread nD τ).loc main_arg1) := by
  refine Eq.trans ?_ (V_main_arg1 m c)
  rw [V_split]
  entry_read
  rfl

/-- The queries' gain's argument reaches the last stretch as it was. -/
theorem arg2_eq : entry4 m c (Proc.devRef .tc main_arg2) = m ((c : Thread nD τ).loc main_arg2) := by
  refine Eq.trans ?_ (V_main_arg2 m c)
  rw [V_split]
  entry_read
  rfl

/-- The keys' gain's argument reaches the last stretch as it was. -/
theorem arg3_eq : entry4 m c (Proc.devRef .tc main_arg3) = m ((c : Thread nD τ).loc main_arg3) := by
  refine Eq.trans ?_ (V_main_arg3 m c)
  rw [V_split]
  entry_read
  rfl

/-- The gain of the gating's norm's argument reaches the last stretch as it was. -/
theorem arg4_eq : entry4 m c (Proc.devRef .tc main_arg4) = m ((c : Thread nD τ).loc main_arg4) := by
  refine Eq.trans ?_ (V_main_arg4 m c)
  rw [V_split]
  entry_read
  rfl

/-- The bias of the gating's norm's argument reaches the last stretch as it was. -/
theorem arg5_eq : entry4 m c (Proc.devRef .tc main_arg5) = m ((c : Thread nD τ).loc main_arg5) := by
  refine Eq.trans ?_ (V_main_arg5 m c)
  rw [V_split]
  entry_read
  rfl

/-- The mixing weights' argument reaches the last stretch as it was. -/
theorem arg6_eq : entry4 m c (Proc.devRef .tc main_arg6) = m ((c : Thread nD τ).loc main_arg6) := by
  refine Eq.trans ?_ (V_main_arg6 m c)
  rw [V_split]
  entry_read
  rfl

/-- The mixing's bias' argument reaches the last stretch as it was. -/
theorem arg7_eq : entry4 m c (Proc.devRef .tc main_arg7) = m ((c : Thread nD τ).loc main_arg7) := by
  refine Eq.trans ?_ (V_main_arg7 m c)
  rw [V_split]
  entry_read
  rfl

/-- The table of column numbers reaches the last stretch. -/
theorem c_eq : entry4 m c (Proc.devRef .tc main_c) = fun i => lit0 (S2048.rowMajor i) := by
  unfold entry4
  entry_read
  unfold entry3
  entry_read
  unfold entry2
  entry_read
  unfold entry1
  entry_read
  rfl

/-- The columns' choice reaches the last stretch. -/
theorem c_0_eq : entry4 m c (Proc.devRef .tc main_c_0) = constantI S2048 1 0#1 := by
  unfold entry4
  entry_read
  unfold entry3
  entry_read
  unfold entry2
  entry_read
  unfold entry1
  entry_read
  rfl

/-- The table of the gains' entries reaches the last stretch. -/
theorem c_1_eq : entry4 m c (Proc.devRef .tc main_c_1) = fun i => lit1 (S128.rowMajor i) := by
  unfold entry4
  entry_read
  unfold entry3
  entry_read
  unfold entry2
  entry_read
  unfold entry1
  entry_read
  rfl

/-- The queries' gain's choice reaches the last stretch. -/
theorem c_2_eq : entry4 m c (Proc.devRef .tc main_c_2) = constantI S128 1 0#1 := by
  unfold entry4
  entry_read
  unfold entry3
  entry_read
  unfold entry2
  entry_read
  unfold entry1
  entry_read
  rfl

/-- The keys' gain's choice reaches the last stretch. -/
theorem c_3_eq : entry4 m c (Proc.devRef .tc main_c_3) = constantI S128 1 0#1 := by
  unfold entry4
  entry_read
  unfold entry3
  entry_read
  unfold entry2
  entry_read
  unfold entry1
  entry_read
  rfl

/-- The rows. -/
theorem x_at (b : Fin 32) (s : Fin 2048) (k : Fin 1024) (i : Fin 65536) (hi : i.val = b.val * 2048 + s.val) :
    V m c main_v108 (ix2 i k) = m ((c : Thread nD τ).loc main_arg0) (ix3 b s k) := by
  rw [V_split]
  entry_read
  rw [arg0_eq]
  pointwise
  blk_ext

/-- The weights, their columns rearranged. -/
theorem w_at (r : Fin 1024) (k : Fin 2048) :
    V m c main_v114 (ix2 r k) = m ((c : Thread nD τ).loc main_arg1) (ix2 r ⟨source k.val, source_lt k⟩) := by
  have hk : S2048.rowMajor (ix1 k) = k := by
    refine Fin.ext ?_
    show Shape.rankPi ![2048] (ix1 k) = k.val
    simp [Shape.rankPi, Shape.prodPi]
  rw [V_split]
  entry_read
  rw [c_eq, c_0_eq, arg1_eq]
  pointwise
  refine (gather_cols _ _ _ _).trans ?_
  pointwise
  have hj : (lit0 (S2048.rowMajor (ix1 k))).toInt.toNat = source k.val :=
    (congrArg (fun z => (lit0 z).toInt.toNat) hk).trans (cols k)
  refine congrArg (m ((c : Thread nD τ).loc main_arg1)) (congrArg (ix2 r ·) (Fin.ext ?_))
  show min (lit0 (S2048.rowMajor (ix1 k))).toInt.toNat 2047 = source k.val
  rw [hj]
  have := source_lt k
  omega

/-- A gain, its entries in lane order. -/
theorem gain_at (x : S64.Idx → EReal) (l : Fin 128) :
    Host.gather gather_S64_S128x1_S128_n_0_n_n_0_1_1 x
        (broadcastInDim S128x1 ![0] bcast_S128_S128x1_0 (select (constantI S128 1 0#1)
          (addi (fun i => lit1 (S128.rowMajor i)) (broadcastInDim S128 ![] bcast_S_S128 (constantI S_ 32 64#32)))
          fun i => lit1 (S128.rowMajor i))) (ix1 l)
      = x (ix1 (placeOf l)) := by
  have hk : S128.rowMajor (ix1 l) = l := by
    refine Fin.ext ?_
    show Shape.rankPi ![128] (ix1 l) = l.val
    simp [Shape.rankPi, Shape.prodPi]
  refine (gather_one _ _ _).trans ?_
  pointwise
  have hj : (lit1 (S128.rowMajor (ix1 l))).toInt.toNat = (placeOf l).val :=
    (congrArg (fun z => (lit1 z).toInt.toNat) hk).trans (gains l)
  refine congrArg x (congrArg ix1 (Fin.ext ?_))
  show min (lit1 (S128.rowMajor (ix1 l))).toInt.toNat 63 = (placeOf l).val
  rw [hj]
  have := (placeOf l).isLt
  omega

/-- The queries' gain. -/
theorem gq_at (l : Fin 128) : V m c main_v120 (ix2 0 l) = m ((c : Thread nD τ).loc main_arg2) (ix1 (placeOf l)) := by
  rw [V_split]
  entry_read
  rw [c_1_eq, c_2_eq, arg2_eq]
  pointwise
  exact gain_at _ l

/-- The keys' gain. -/
theorem gk_at (l : Fin 128) : V m c main_v126 (ix2 0 l) = m ((c : Thread nD τ).loc main_arg3) (ix1 (placeOf l)) := by
  rw [V_split]
  entry_read
  rw [c_1_eq, c_3_eq, arg3_eq]
  pointwise
  exact gain_at _ l

/-- The gain of the gating's norm. -/
theorem lg_at (d : Fin 256) : V m c main_v127 (ix2 0 d) = m ((c : Thread nD τ).loc main_arg4) (ix1 d) := by
  rw [V_split]
  entry_read
  rw [arg4_eq]
  pointwise

/-- The bias of the gating's norm. -/
theorem lb_at (d : Fin 256) : V m c main_v128 (ix2 0 d) = m ((c : Thread nD τ).loc main_arg5) (ix1 d) := by
  rw [V_split]
  entry_read
  rw [arg5_eq]
  pointwise

/-- The mixing weights. -/
theorem ws_at (g : Fin 4) (p q : Fin 128) :
    V m c main_v129 (ix3 g p q) = m ((c : Thread nD τ).loc main_arg6) (ix3 g p q) := by
  rw [V_split]
  entry_read
  rw [arg6_eq]
  pointwise

/-- The mixing's bias, repeated over its group's columns. -/
theorem bs_at (p : Fin 128) (d : Fin 256) :
    V m c main_v107 (ix2 p d) = m ((c : Thread nD τ).loc main_arg7) (ix2 ⟨d.val / 64, by omega⟩ p) := by
  rw [V_split]
  entry_read
  rw [arg7_eq]
  pointwise

end Cert.ProjIdeal.Row

end
-- ==== Proof.ProjTab.lean ====
/- The rotations' tables the host prepares for the input projection's call, element by element over the arguments. -/
module

public import proofs.«01_k».proof.Proof.ProjHost
public import Idealize.ShloMosaic.Lib.Pointwise
public import Idealize.ShloMosaic.Lib.Claim
public import Idealize.ShloMosaic.Lib.Pipeline.ValueKit

@[expose] public section

set_option maxRecDepth 16384

noncomputable section

namespace Cert.ProjIdeal.Row

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The last stretch of operations, cut in two. -/
theorem V_cut (n : ℕ) (b : Ref sig .tc) :
    V m c b = StableHlo.after (List.drop n hostOps0_4) (StableHlo.after (List.take n hostOps0_4) (entry4 m c))
      (Proc.devRef .tc b) :=
  (V_split m c b).trans (congrFun ((congrArg (fun l => StableHlo.after l (entry4 m c))
    (List.take_append_drop n hostOps0_4).symm).trans (StableHlo.after_append _ _ _)) (Proc.devRef .tc b))

/-- The first mixer's tables are stacked. -/
theorem v81_eq : V m c main_v81 = concatenate S2x2048x128 0
    [⟨S1x2048x128, V m c main_v79⟩, ⟨S1x2048x128, V m c main_v80⟩]
    concatenates_S1x2048x128_S1x2048x128_S2x2048x128_d0 := by
  rw [V_cut m c 43 main_v81, V_cut m c 43 main_v79, V_cut m c 43 main_v80]
  generalize StableHlo.after (List.take 43 hostOps0_4) (entry4 m c) = σ
  dsimp only [List.drop]
  entry_read
  rfl

/-- The first mixer's signed sines, spread over the lanes. -/
theorem v80_eq : V m c main_v80 = broadcastInDim S1x2048x128 ![1, 2] bcast_S2048x128_S1x2048x128_1_2
    (shapeCast _ (broadcastInDim S2048x2x4x1x16 ![0, 1, 2, 3, 4] bcast_S2048x2x1x1x16_S2048x2x4x1x16_0_1_2_3_4
      (broadcastInDim S2048x2x1x1x16 ![0, 1, 3, 4] bcast_S2048x2x1x16_S2048x2x1x1x16_0_1_3_4 (V m c main_v69)))
      shapeCasts_S2048x2x4x1x16_S2048x128) := by
  simp only [V_split]
  entry_read
  rfl

/-- The first mixer's sines: the first half negated. -/
theorem v69_eq : V m c main_v69 = concatenate S2048x2x1x16 1
    [⟨S2048x1x1x16, V m c main_v67⟩, ⟨S2048x1x1x16, V m c main_v68⟩]
    concatenates_S2048x1x1x16_S2048x1x1x16_S2048x2x1x16_d1 := by
  rw [V_split m c main_v69, V_split m c main_v67, V_split m c main_v68]
  entry_read
  rfl

/-- The second mixer's tables are stacked. -/
theorem v104_eq : V m c main_v104 = concatenate S2x2048x128 0
    [⟨S1x2048x128, V m c main_v102⟩, ⟨S1x2048x128, V m c main_v103⟩]
    concatenates_S1x2048x128_S1x2048x128_S2x2048x128_d0 := by
  rw [V_cut m c 66 main_v104, V_cut m c 66 main_v102, V_cut m c 66 main_v103]
  generalize StableHlo.after (List.take 66 hostOps0_4) (entry4 m c) = σ
  dsimp only [List.drop]
  entry_read
  rfl

/-- The second mixer's cosines, spread over the lanes. -/
theorem v102_eq : V m c main_v102 = broadcastInDim S1x2048x128 ![1, 2] bcast_S2048x128_S1x2048x128_1_2
    (shapeCast _ (broadcastInDim S2048x2x2x2x16 ![0, 1, 2, 3, 4] bcast_S2048x2x1x2x16_S2048x2x2x2x16_0_1_2_3_4
      (broadcastInDim S2048x2x1x2x16 ![0, 1, 3, 4] bcast_S2048x2x2x16_S2048x2x1x2x16_0_1_3_4
        (transpose S2048x2x2x16 [0, 2, 1, 3] (shapeCast _ (V m c main_v93) shapeCasts_S2048x2x32_S2048x2x2x16)
          transposes_S2048x2x2x16_S2048x2x2x16_0_2_1_3)))
      shapeCasts_S2048x2x2x2x16_S2048x128) := by
  simp only [V_split]
  entry_read
  rfl

/-- The second mixer's signed sines, spread over the lanes. -/
theorem v103_eq : V m c main_v103 = broadcastInDim S1x2048x128 ![1, 2] bcast_S2048x128_S1x2048x128_1_2
    (shapeCast _ (broadcastInDim S2048x2x2x2x16 ![0, 1, 2, 3, 4] bcast_S2048x2x1x2x16_S2048x2x2x2x16_0_1_2_3_4
      (broadcastInDim S2048x2x1x2x16 ![0, 1, 3, 4] bcast_S2048x2x2x16_S2048x2x1x2x16_0_1_3_4 (V m c main_v90)))
      shapeCasts_S2048x2x2x2x16_S2048x128) := by
  simp only [V_split]
  entry_read
  rfl

/-- The second mixer's sines: the first half negated. -/
theorem v90_eq : V m c main_v90 = concatenate S2048x2x2x16 1
    [⟨S2048x1x2x16, V m c main_v88⟩, ⟨S2048x1x2x16, V m c main_v89⟩]
    concatenates_S2048x1x2x16_S2048x1x2x16_S2048x2x2x16_d1 := by
  rw [V_cut m c 52 main_v90, V_cut m c 52 main_v88, V_cut m c 52 main_v89]
  generalize StableHlo.after (List.take 52 hostOps0_4) (entry4 m c) = σ
  dsimp only [List.drop]
  entry_read
  rfl

/-- The negated half. -/
theorem v88_eq : V m c main_v88 = Host.negf (F := Ideal) (φ := .f32) (extractStridedSlice S2048x1x2x16 ![0, 0, 0, 0]
    (transpose S2048x2x2x16 [0, 2, 1, 3] (shapeCast _ (V m c main_v84) shapeCasts_S2048x2x32_S2048x2x2x16)
      transposes_S2048x2x2x16_S2048x2x2x16_0_2_1_3) slices_S2048x2x2x16_S2048x1x2x16_0_0_0_0) := by
  simp only [V_split]
  entry_read
  rfl

/-- The other half. -/
theorem v89_eq : V m c main_v89 = extractStridedSlice S2048x1x2x16 ![0, 1, 0, 0]
    (transpose S2048x2x2x16 [0, 2, 1, 3] (shapeCast _ (V m c main_v84) shapeCasts_S2048x2x32_S2048x2x2x16)
      transposes_S2048x2x2x16_S2048x2x2x16_0_2_1_3) slices_S2048x2x2x16_S2048x1x2x16_0_1_0_0 := by
  simp only [V_split]
  entry_read
  rfl

/-- The rows' and the columns' sines, side by side. -/
theorem v84_eq : V m c main_v84 = concatenate S2048x2x32 1
    [⟨S2048x1x32, V m c main_v82⟩, ⟨S2048x1x32, V m c main_v83⟩]
    concatenates_S2048x1x32_S2048x1x32_S2048x2x32_d1 := by
  rw [V_split m c main_v84, V_split m c main_v82, V_split m c main_v83]
  entry_read
  rfl

/-- The rows' and the columns' cosines, side by side. -/
theorem v93_eq : V m c main_v93 = concatenate S2048x2x32 1
    [⟨S2048x1x32, V m c main_v91⟩, ⟨S2048x1x32, V m c main_v92⟩]
    concatenates_S2048x1x32_S2048x1x32_S2048x2x32_d1 := by
  rw [V_split m c main_v93, V_split m c main_v91, V_split m c main_v92]
  entry_read
  rfl

/-- The first mixer's cosines, spread over the lanes. -/
theorem v79_eq : V m c main_v79 = broadcastInDim S1x2048x128 ![1, 2] bcast_S2048x128_S1x2048x128_1_2
    (shapeCast _ (broadcastInDim S2048x2x4x1x16 ![0, 1, 2, 3, 4] bcast_S2048x2x1x1x16_S2048x2x4x1x16_0_1_2_3_4
      (broadcastInDim S2048x2x1x1x16 ![0, 1, 3, 4] bcast_S2048x2x1x16_S2048x2x1x1x16_0_1_3_4
        (transpose S2048x2x1x16 [0, 2, 1, 3] (shapeCast _ (V m c main_v70) shapeCasts_S2048x1x32_S2048x1x2x16)
          transposes_S2048x1x2x16_S2048x2x1x16_0_2_1_3)))
      shapeCasts_S2048x2x4x1x16_S2048x128) := by
  simp only [V_split]
  entry_read
  rfl

/-- The first mixer's cosines, as a column of tables. -/
theorem v70_eq : V m c main_v70 = broadcastInDim S2048x1x32 ![0, 2] bcast_S2048x32_S2048x1x32_0_2 (V m c main_v19) := by
  simp only [V_split]
  entry_read
  rfl

/-- The first mixer's sines, as a column of tables. -/
theorem v63_eq : V m c main_v63 = broadcastInDim S2048x1x32 ![0, 2] bcast_S2048x32_S2048x1x32_0_2 (V m c main_v20) := by
  simp only [V_split]
  entry_read
  rfl

/-- The negated half of the first mixer's sines. -/
theorem v67_eq : V m c main_v67 = Host.negf (F := Ideal) (φ := .f32) (extractStridedSlice S2048x1x1x16 ![0, 0, 0, 0]
    (transpose S2048x2x1x16 [0, 2, 1, 3] (shapeCast _ (V m c main_v63) shapeCasts_S2048x1x32_S2048x1x2x16)
      transposes_S2048x1x2x16_S2048x2x1x16_0_2_1_3) slices_S2048x2x1x16_S2048x1x1x16_0_0_0_0) := by
  simp only [V_split]
  entry_read
  rfl

/-- The other half of the first mixer's sines. -/
theorem v68_eq : V m c main_v68 = extractStridedSlice S2048x1x1x16 ![0, 1, 0, 0]
    (transpose S2048x2x1x16 [0, 2, 1, 3] (shapeCast _ (V m c main_v63) shapeCasts_S2048x1x32_S2048x1x2x16)
      transposes_S2048x1x2x16_S2048x2x1x16_0_2_1_3) slices_S2048x2x1x16_S2048x1x1x16_0_1_0_0 := by
  simp only [V_split]
  entry_read
  rfl

/-- The rows' cosines, as a column of tables. -/
theorem v91_eq : V m c main_v91 = broadcastInDim S2048x1x32 ![0, 2] bcast_S2048x32_S2048x1x32_0_2 (V m c main_v40) := by
  simp only [V_split]
  entry_read
  rfl

/-- The columns' cosines, as a column of tables. -/
theorem v92_eq : V m c main_v92 = broadcastInDim S2048x1x32 ![0, 2] bcast_S2048x32_S2048x1x32_0_2 (V m c main_v61) := by
  simp only [V_split]
  entry_read
  rfl

/-- The rows' sines, as a column of tables. -/
theorem v82_eq : V m c main_v82 = broadcastInDim S2048x1x32 ![0, 2] bcast_S2048x32_S2048x1x32_0_2 (V m c main_v41) := by
  simp only [V_split]
  entry_read
  rfl

/-- The columns' sines, as a column of tables. -/
theorem v83_eq : V m c main_v83 = broadcastInDim S2048x1x32 ![0, 2] bcast_S2048x32_S2048x1x32_0_2 (V m c main_v62) := by
  simp only [V_split]
  entry_read
  rfl

/-- The first mixer's cosines. -/
theorem ca_at (s : Fin 2048) (l : Fin 128) :
    V m c main_v81 (ix3 0 s l) = V m c main_v19 (ix2 s (spot l)) := by
  rw [v81_eq, v79_eq, v70_eq]
  pointwise
  rfl

/-- The rows' cosines. -/
theorem v91_at (s : Fin 2048) (a : Fin 1) (j : Fin 32) :
    V m c main_v91 (ix3 s a j) = V m c main_v40 (ix2 s j) := by
  rw [v91_eq]
  pointwise

/-- The columns' cosines. -/
theorem v92_at (s : Fin 2048) (a : Fin 1) (j : Fin 32) :
    V m c main_v92 (ix3 s a j) = V m c main_v61 (ix2 s j) := by
  rw [v92_eq]
  pointwise

/-- The rows' sines. -/
theorem v82_at (s : Fin 2048) (a : Fin 1) (j : Fin 32) :
    V m c main_v82 (ix3 s a j) = V m c main_v41 (ix2 s j) := by
  rw [v82_eq]
  pointwise

/-- The columns' sines. -/
theorem v83_at (s : Fin 2048) (a : Fin 1) (j : Fin 32) :
    V m c main_v83 (ix3 s a j) = V m c main_v62 (ix2 s j) := by
  rw [v83_eq]
  pointwise

/-- The first mixer's negated sines. -/
theorem v67_at (x : S2048x32.Idx → EReal) (hx : V m c main_v20 = x) (s : Fin 2048) (a b : Fin 1)
    (j : Fin 16) : V m c main_v67 (ix4 s a b j) = -x (ix2 s ⟨j.val, by omega⟩) := by
  subst hx
  rw [v67_eq, v63_eq]
  pointwise

/-- The first mixer's other sines. -/
theorem v68_at (s : Fin 2048) (a b : Fin 1) (j : Fin 16) :
    V m c main_v68 (ix4 s a b j) = V m c main_v20 (ix2 s ⟨16 + j.val, by omega⟩) := by
  rw [v68_eq, v63_eq]
  pointwise

/-- A number for each lane, negated in the first half of the lanes. -/
def signed (x : Fin 128 → EReal) (l : Fin 128) : EReal := if l.val / 64 < 1 then -x l else x l

/-- A number for each lane, from the rows' table in the first axis and from the columns' in the second. -/
def axial (xr xc : Fin 128 → EReal) (l : Fin 128) : EReal := if l.val / 16 % 2 < 1 then xr l else xc l

/-- The first mixer's signed sines. -/
theorem sa_at (x : S2048x32.Idx → EReal) (hx : V m c main_v20 = x) (s : Fin 2048) (l : Fin 128) :
    V m c main_v81 (ix3 1 s l) = signed (fun l => x (ix2 s (spot l))) l := by
  rw [v81_eq, v80_eq, v69_eq]
  pointwise
  by_cases h : l.val / 64 < 1
  · refine (dif_pos h).trans ((v67_at m c x hx s _ _ _).trans (Eq.trans ?_ (if_pos h).symm))
    exact congrArg (fun j => -x (ix2 s j)) (Fin.ext (by simp only [spot]; omega))
  · refine (dif_neg h).trans ((v68_at m c s _ _ _).trans ((congrFun hx _).trans (Eq.trans ?_ (if_neg h).symm)))
    exact congrArg (fun j => x (ix2 s j)) (Fin.ext (by simp only [spot]; omega))

/-- The second mixer's cosines. -/
theorem cb_at (xr xc : S2048x32.Idx → EReal) (hr : V m c main_v40 = xr)
    (hc : V m c main_v61 = xc) (s : Fin 2048) (l : Fin 128) :
    V m c main_v104 (ix3 0 s l) = axial (fun l => xr (ix2 s (spot l))) (fun l => xc (ix2 s (spot l))) l := by
  rw [v104_eq, v102_eq, v93_eq]
  pointwise
  by_cases h : l.val / 16 % 2 < 1
  · exact (dif_pos h).trans ((v91_at m c s _ _).trans ((congrFun hr _).trans (if_pos h).symm))
  · exact (dif_neg h).trans ((v92_at m c s _ _).trans ((congrFun hc _).trans (if_neg h).symm))

/-- The negated half of the sines at a lane of the first half. -/
theorem v88_at (xr xc : S2048x32.Idx → EReal) (hr : V m c main_v41 = xr)
    (hc : V m c main_v62 = xc) (s : Fin 2048) (l : Fin 128) (a : Fin 1) (j : Fin 16)
    (hj : j.val = l.val / 64 * 16 + l.val % 16) :
    V m c main_v88 (ix4 s a ⟨l.val / 16 % 2, by omega⟩ j)
      = -axial (fun l => xr (ix2 s (spot l))) (fun l => xc (ix2 s (spot l))) l := by
  rw [v88_eq, v84_eq]
  pointwise
  by_cases h : l.val / 16 % 2 < 1
  · exact congrArg (fun z : EReal => -z) ((dif_pos h).trans ((v82_at m c s _ _).trans
      ((congrFun hr _).trans ((congrArg (fun j => xr (ix2 s j)) (Fin.ext hj)).trans (if_pos h).symm))))
  · exact congrArg (fun z : EReal => -z) ((dif_neg h).trans ((v83_at m c s _ _).trans
      ((congrFun hc _).trans ((congrArg (fun j => xc (ix2 s j)) (Fin.ext hj)).trans (if_neg h).symm))))

/-- The other half of the sines at a lane of the second half. -/
theorem v89_at (xr xc : S2048x32.Idx → EReal) (hr : V m c main_v41 = xr)
    (hc : V m c main_v62 = xc) (s : Fin 2048) (l : Fin 128) (a : Fin 1) (j : Fin 16)
    (hj : 16 + j.val = l.val / 64 * 16 + l.val % 16) :
    V m c main_v89 (ix4 s a ⟨l.val / 16 % 2, by omega⟩ j)
      = axial (fun l => xr (ix2 s (spot l))) (fun l => xc (ix2 s (spot l))) l := by
  rw [v89_eq, v84_eq]
  pointwise
  by_cases h : l.val / 16 % 2 < 1
  · exact (dif_pos h).trans ((v82_at m c s _ _).trans
      ((congrFun hr _).trans ((congrArg (fun j => xr (ix2 s j)) (Fin.ext hj)).trans (if_pos h).symm)))
  · exact (dif_neg h).trans ((v83_at m c s _ _).trans
      ((congrFun hc _).trans ((congrArg (fun j => xc (ix2 s j)) (Fin.ext hj)).trans (if_neg h).symm)))

/-- The second mixer's signed sines. -/
theorem sb_at (xr xc : S2048x32.Idx → EReal) (hr : V m c main_v41 = xr)
    (hc : V m c main_v62 = xc) (s : Fin 2048) (l : Fin 128) :
    V m c main_v104 (ix3 1 s l)
      = signed (axial (fun l => xr (ix2 s (spot l))) fun l => xc (ix2 s (spot l))) l := by
  rw [v104_eq, v103_eq, v90_eq]
  pointwise
  by_cases h : l.val / 64 < 1
  · exact (dif_pos h).trans ((v88_at m c xr xc hr hc s l _ _ (by simp only; omega)).trans (if_pos h).symm)
  · exact (dif_neg h).trans ((v89_at m c xr xc hr hc s l _ _ (by simp only; omega)).trans (if_neg h).symm)

end Cert.ProjIdeal.Row

end
-- ==== Proof.ProjValue.lean ====
/- The input projection's seven result arrays, element by element over the arguments. -/
module

public import proofs.«01_k».proof.Proof.ProjBlock
public import proofs.«01_k».proof.Proof.ProjHost
public import proofs.«01_k».proof.Proof.ProjTab

@[expose] public section

set_option maxRecDepth 16384

noncomputable section

namespace Cert.ProjIdeal.Row

open Cert.ProjIdeal Cert.ProjIdeal.Gen Idealize.ShloMosaic Idealize.ShloMosaic.TcCoe Idealize.SL.Sem
open Idealize.ShloMosaic.Pipeline (Dat)
open Cert.GqaIdeal.Row (placeOf)

variable (m : (ℓ : Loc nD τ sig) → Buf (Elt Ideal) ℓ) (c : Dev nD)

/-- The index maps of the ten inputs' windows: the rows' follows the grid, the others are whole arrays. -/
theorem idx : ∀ t : Fin cfg0.N, win0_0.index t = ![t.val, 0] ∧ win0_1.index t = ![0, 0]
    ∧ win0_2.index t = ![0, 0, 0] ∧ win0_3.index t = ![0, 0, 0] ∧ win0_4.index t = ![0, 0]
    ∧ win0_5.index t = ![0, 0] ∧ win0_6.index t = ![0, 0] ∧ win0_7.index t = ![0, 0]
    ∧ win0_8.index t = ![0, 0, 0] ∧ win0_9.index t = ![0, 0] ∧ t.val < 64 :=
  (by decide +kernel : ∀ t : Fin grid0.N, _)

/-- The index maps of the seven results' windows: they follow the grid. -/
theorem idx' : ∀ t : Fin cfg0.N, win0_10.index t = ![t.val, 0] ∧ win0_11.index t = ![0, t.val]
    ∧ win0_12.index t = ![t.val, 0] ∧ win0_13.index t = ![t.val, 0] ∧ win0_14.index t = ![0, t.val]
    ∧ win0_15.index t = ![t.val, 0] ∧ win0_16.index t = ![t.val, 0] ∧ t.val < 64 :=
  (by decide +kernel : ∀ t : Fin grid0.N, _)

/-- A row of the projection, at batch `b` and position `s`, in the kernel's order of columns. -/
def hid (x : S32x2048x1024.Idx → EReal) (w : S1024x2048.Idx → EReal) (b : Fin 32) (s : Fin 2048) (k : Fin 2048) :
    EReal :=
  ∑ e, x (ix3 b s e) * w (ix2 e ⟨source k.val, source_lt k⟩)

/-- A block's row of the projection. -/
theorem hrow_at (t : Fin cfg0.N) (r : Fin 1024) (b : Fin 32) (s : Fin 2048)
    (hi : t.val * 1024 + r.val = b.val * 2048 + s.val) :
    hrow (iblk m c 0 t) (iblk m c 1 t) r
      = hid (m ((c : Thread nD τ).loc main_arg0)) (m ((c : Thread nD τ).loc main_arg1)) b s := by
  funext k
  refine Finset.sum_congr rfl fun e _ => congrArg₂ (· * ·) ?_ ?_
  · exact Eq.trans (by blk_ext [iblk, idx t]) (x_at m c b s e ⟨b.val * 2048 + s.val, by omega⟩ rfl)
  · exact Eq.trans (by blk_ext [iblk, idx t]) (w_at m c e k)

/-- The first mixer's table, as a block holds it. -/
theorem ta_blk (t : Fin cfg0.N) (z : Fin 2) (s : Fin 2048) (l : Fin 128) :
    iblk m c 2 t (ix3 z s l) = V m c main_v81 (ix3 z s l) := by blk_ext [iblk, idx t]

/-- The second mixer's table, as a block holds it. -/
theorem tb_blk (t : Fin cfg0.N) (z : Fin 2) (s : Fin 2048) (l : Fin 128) :
    iblk m c 3 t (ix3 z s l) = V m c main_v104 (ix3 z s l) := by blk_ext [iblk, idx t]

/-- The queries' gain, as a block holds it. -/
theorem gq_blk (t : Fin cfg0.N) (l : Fin 128) :
    iblk m c 4 t (ix2 0 l) = m ((c : Thread nD τ).loc main_arg2) (ix1 (placeOf l)) :=
  Eq.trans (by blk_ext [iblk, idx t]) (gq_at m c l)

/-- The keys' gain, as a block holds it. -/
theorem gk_blk (t : Fin cfg0.N) (l : Fin 128) :
    iblk m c 5 t (ix2 0 l) = m ((c : Thread nD τ).loc main_arg3) (ix1 (placeOf l)) :=
  Eq.trans (by blk_ext [iblk, idx t]) (gk_at m c l)

/-- The gating norm's gain, as a block holds it. -/
theorem lg_blk (t : Fin cfg0.N) (d : Fin 256) :
    iblk m c 6 t (ix2 0 d) = m ((c : Thread nD τ).loc main_arg4) (ix1 d) :=
  Eq.trans (by blk_ext [iblk, idx t]) (lg_at m c d)

/-- The gating norm's bias, as a block holds it. -/
theorem lb_blk (t : Fin cfg0.N) (d : Fin 256) :
    iblk m c 7 t (ix2 0 d) = m ((c : Thread nD τ).loc main_arg5) (ix1 d) :=
  Eq.trans (by blk_ext [iblk, idx t]) (lb_at m c d)

/-- The mixing weights, as a block holds them. -/
theorem ws_blk (t : Fin cfg0.N) (g : Fin 4) (p q : Fin 128) :
    iblk m c 8 t (ix3 g p q) = m ((c : Thread nD τ).loc main_arg6) (ix3 g p q) :=
  Eq.trans (by blk_ext [iblk, idx t]) (ws_at m c g p q)

/-- The mixing bias, as a block holds it. -/
theorem bs_blk (t : Fin cfg0.N) (p : Fin 128) (d : Fin 256) :
    iblk m c 9 t (ix2 p d) = m ((c : Thread nD τ).loc main_arg7) (ix2 ⟨d.val / 64, by omega⟩ p) :=
  Eq.trans (by blk_ext [iblk, idx t]) (bs_at m c p d)

/-- The first mixer's rotation of 128 lanes at a position. -/
def spinA (ca sa : S2048x32.Idx → EReal) (h : Fin 128 → EReal) (s : Fin 2048) (l : Fin 128) : EReal :=
  rope h (fun l => ca (ix2 s (spot l))) (signed fun l => sa (ix2 s (spot l))) l

/-- The second mixer's rotation of 128 lanes at a position. -/
def spinB (cr sr cc sc : S2048x32.Idx → EReal) (h : Fin 128 → EReal) (s : Fin 2048) (l : Fin 128) : EReal :=
  rope h (axial (fun l => cr (ix2 s (spot l))) fun l => cc (ix2 s (spot l)))
    (signed (axial (fun l => sr (ix2 s (spot l))) fun l => sc (ix2 s (spot l)))) l

/-- The rotation by the first mixer's tables, as a block holds them. -/
theorem spinA_at (t : Fin cfg0.N) (h : Fin 128 → EReal) (s : Fin 2048) (l : Fin 128) :
    rope h (fun k => iblk m c 2 t (ix3 0 s k)) (fun k => iblk m c 2 t (ix3 1 s k)) l
      = spinA (V m c main_v19) (V m c main_v20) h s l :=
  congrArg₂ (fun cos sin => rope h cos sin l)
    (funext fun k => (ta_blk m c t 0 s k).trans (ca_at m c s k))
    (funext fun k => (ta_blk m c t 1 s k).trans (sa_at m c _ rfl s k))

/-- The rotation by the second mixer's tables, as a block holds them. -/
theorem spinB_at (t : Fin cfg0.N) (h : Fin 128 → EReal) (s : Fin 2048) (l : Fin 128) :
    rope h (fun k => iblk m c 3 t (ix3 0 s k)) (fun k => iblk m c 3 t (ix3 1 s k)) l
      = spinB (V m c main_v40) (V m c main_v41)
          (V m c main_v61) (V m c main_v62) h s l :=
  congrArg₂ (fun cos sin => rope h cos sin l)
    (funext fun k => (tb_blk m c t 0 s k).trans (cb_at m c _ _ rfl rfl s k))
    (funext fun k => (tb_blk m c t 1 s k).trans (sb_at m c _ _ rfl rfl s k))

/-- A block's row's place in its sequence, over the batch and the position. -/
theorem place_at (t : Fin cfg0.N) (r : Fin 1024) (b : Fin 32) (s : Fin 2048)
    (hi : t.val * 1024 + r.val = b.val * 2048 + s.val) : place t r = s :=
  Fin.ext (show t.val % 2 * 1024 + r.val = s.val by omega)

/-- The rotated heads of the first mixer. -/
def headA (x : S32x2048x1024.Idx → EReal) (w : S1024x2048.Idx → EReal) (ca sa : S2048x32.Idx → EReal)
    (b : Fin 32) (s : Fin 2048) (g : Fin 16) (l : Fin 128) : EReal :=
  spinA ca sa (seg (hid x w b s) g) s l

/-- The normed and rotated heads of the second mixer. -/
def headB (x : S32x2048x1024.Idx → EReal) (w : S1024x2048.Idx → EReal) (cr sr cc sc : S2048x32.Idx → EReal)
    (γ : S64.Idx → EReal) (b : Fin 32) (s : Fin 2048) (g : Fin 16) (l : Fin 128) : EReal :=
  spinB cr sr cc sc (rms (seg (hid x w b s) g) fun l => γ (ix1 (placeOf l))) s l

/-- The gated columns of the third mixer. -/
def gated (x : S32x2048x1024.Idx → EReal) (w : S1024x2048.Idx → EReal) (lg lb : S256.Idx → EReal)
    (ws : S4x128x128.Idx → EReal) (bs : S4x128.Idx → EReal) (b : Fin 32) (s : Fin 2048) (d : Fin 256) : EReal :=
  gate (hid x w b s ⟨1536 + d.val, by omega⟩)
    (fun q d => hid x w b ⟨s.val / 128 * 128 + q.val, by omega⟩ ⟨1792 + d.val, by omega⟩)
    (fun d => lg (ix1 d)) (fun d => lb (ix1 d))
    (fun q => ws (ix3 ⟨d.val / 64, by omega⟩ ⟨s.val % 128, by omega⟩ q))
    (bs (ix2 ⟨d.val / 64, by omega⟩ ⟨s.val % 128, by omega⟩)) d

/-- A block's gated columns, over the arguments. -/
theorem gated_at (t : Fin cfg0.N) (r : Fin 1024) (d : Fin 256) (b : Fin 32) (s : Fin 2048)
    (hi : t.val * 1024 + r.val = b.val * 2048 + s.val) : (outsAt0 m c t).2.2.2.2.2.2 (ix2 r d)
      = gated (m ((c : Thread nD τ).loc main_arg0)) (m ((c : Thread nD τ).loc main_arg1))
          (m ((c : Thread nD τ).loc main_arg4)) (m ((c : Thread nD τ).loc main_arg5))
          (m ((c : Thread nD τ).loc main_arg6)) (m ((c : Thread nD τ).loc main_arg7)) b s d := by
  have hp : (⟨r.val % 128, by omega⟩ : Fin 128) = ⟨s.val % 128, by omega⟩ :=
    Fin.ext (show r.val % 128 = s.val % 128 by omega)
  have hq : ∀ q : Fin 128, hrow (iblk m c 0 t) (iblk m c 1 t) ⟨r.val / 128 * 128 + q.val, by omega⟩
      = hid (m ((c : Thread nD τ).loc main_arg0)) (m ((c : Thread nD τ).loc main_arg1)) b
          ⟨s.val / 128 * 128 + q.val, by omega⟩ := fun q =>
    hrow_at m c t _ b _
      (show t.val * 1024 + (r.val / 128 * 128 + q.val) = b.val * 2048 + (s.val / 128 * 128 + q.val) by omega)
  rw [block_16, hrow_at m c t r b s hi, hp]
  simp only [hq, lg_blk, lb_blk, ws_blk, bs_blk]
  rfl

/-- The array of the first mixer's queries. -/
theorem final10 : (dats m 0 c).arrAt 10 cfg0.N = fun i : S65536x256.Idx =>
    headA (m ((c : Thread nD τ).loc main_arg0)) (m ((c : Thread nD τ).loc main_arg1))
      (V m c main_v19) (V m c main_v20)
      ⟨(i 0).val / 2048, by have := (i 0).isLt; simp only [S65536x256] at this; change _ < 65536 at this; omega⟩
      ⟨(i 0).val % 2048, by omega⟩
      ⟨(i 1).val / 128, by have := (i 1).isLt; simp only [S65536x256] at this; change _ < 256 at this; omega⟩
      ⟨(i 1).val % 128, by omega⟩ := by
  refine (dats m 0 c).arrAt_eq_of_covers 10 _ (by decide +kernel) fun t _ y => ?_
  blk_simp
  rw [after0_10]
  idx_vars y
  obtain ⟨h, -, -, -, -, -, -, ht⟩ := idx' t
  simp only [h, Matrix.cons_val_zero, Matrix.cons_val_one]
  have hi : t.val * 1024 + y0.val = (t.val * 1024 + y0.val) / 2048 * 2048 + (t.val * 1024 + y0.val) % 2048 := by omega
  rw [block_10, spinA_at, hrow_at m c t y0 ⟨_, by omega⟩ ⟨_, by omega⟩ hi,
    place_at t y0 ⟨_, by omega⟩ ⟨_, by omega⟩ hi]
  exact congrArg₂ (headA _ _ _ _ _ _) (Fin.ext (show y1.val / 128 = (0 * 256 + y1.val) / 128 by omega))
    (Fin.ext (show y1.val % 128 = (0 * 256 + y1.val) % 128 by omega))

/-- The array of the first mixer's keys, transposed. -/
theorem final11 : (dats m 0 c).arrAt 11 cfg0.N = fun i : S256x65536.Idx =>
    headA (m ((c : Thread nD τ).loc main_arg0)) (m ((c : Thread nD τ).loc main_arg1))
      (V m c main_v19) (V m c main_v20)
      ⟨(i 1).val / 2048, by have := (i 1).isLt; simp only [S256x65536] at this; change _ < 65536 at this; omega⟩
      ⟨(i 1).val % 2048, by omega⟩
      ⟨2 + (i 0).val / 128, by have := (i 0).isLt; simp only [S256x65536] at this; change _ < 256 at this; omega⟩
      ⟨(i 0).val % 128, by omega⟩ := by
  refine (dats m 0 c).arrAt_eq_of_covers 11 _ (by decide +kernel) fun t _ y => ?_
  blk_simp
  rw [after0_11]
  idx_vars y
  obtain ⟨-, h, -, -, -, -, -, ht⟩ := idx' t
  simp only [h, Matrix.cons_val_zero, Matrix.cons_val_one]
  have hi : t.val * 1024 + y1.val = (t.val * 1024 + y1.val) / 2048 * 2048 + (t.val * 1024 + y1.val) % 2048 := by omega
  rw [block_11, spinA_at, hrow_at m c t y1 ⟨_, by omega⟩ ⟨_, by omega⟩ hi,
    place_at t y1 ⟨_, by omega⟩ ⟨_, by omega⟩ hi]
  exact congrArg₂ (headA _ _ _ _ _ _) (Fin.ext (show 2 + y0.val / 128 = 2 + (0 * 256 + y0.val) / 128 by omega))
    (Fin.ext (show y0.val % 128 = (0 * 256 + y0.val) % 128 by omega))

/-- The array of the first mixer's values. -/
theorem final12 : (dats m 0 c).arrAt 12 cfg0.N = fun i : S65536x256.Idx =>
    hid (m ((c : Thread nD τ).loc main_arg0)) (m ((c : Thread nD τ).loc main_arg1))
      ⟨(i 0).val / 2048, by have := (i 0).isLt; simp only [S65536x256] at this; change _ < 65536 at this; omega⟩
      ⟨(i 0).val % 2048, by omega⟩
      ⟨512 + (i 1).val, by have := (i 1).isLt; simp only [S65536x256] at this; change _ < 256 at this; omega⟩ := by
  refine (dats m 0 c).arrAt_eq_of_covers 12 _ (by decide +kernel) fun t _ y => ?_
  blk_simp
  rw [after0_12]
  idx_vars y
  obtain ⟨-, -, h, -, -, -, -, ht⟩ := idx' t
  simp only [h, Matrix.cons_val_zero, Matrix.cons_val_one]
  have hi : t.val * 1024 + y0.val = (t.val * 1024 + y0.val) / 2048 * 2048 + (t.val * 1024 + y0.val) % 2048 := by omega
  rw [block_12, hrow_at m c t y0 ⟨_, by omega⟩ ⟨_, by omega⟩ hi]
  exact congrArg (hid _ _ _ _) (Fin.ext (show 512 + y1.val = 512 + (0 * 256 + y1.val) by omega))

/-- The array of the second mixer's queries. -/
theorem final13 : (dats m 0 c).arrAt 13 cfg0.N = fun i : S65536x512.Idx =>
    headB (m ((c : Thread nD τ).loc main_arg0)) (m ((c : Thread nD τ).loc main_arg1))
      (V m c main_v40) (V m c main_v41)
      (V m c main_v61) (V m c main_v62)
      (m ((c : Thread nD τ).loc main_arg2))
      ⟨(i 0).val / 2048, by have := (i 0).isLt; simp only [S65536x512] at this; change _ < 65536 at this; omega⟩
      ⟨(i 0).val % 2048, by omega⟩
      ⟨6 + (i 1).val / 128, by have := (i 1).isLt; simp only [S65536x512] at this; change _ < 512 at this; omega⟩
      ⟨(i 1).val % 128, by omega⟩ := by
  refine (dats m 0 c).arrAt_eq_of_covers 13 _ (by decide +kernel) fun t _ y => ?_
  blk_simp
  rw [after0_13]
  idx_vars y
  obtain ⟨-, -, -, h, -, -, -, ht⟩ := idx' t
  simp only [h, Matrix.cons_val_zero, Matrix.cons_val_one]
  have hi : t.val * 1024 + y0.val = (t.val * 1024 + y0.val) / 2048 * 2048 + (t.val * 1024 + y0.val) % 2048 := by omega
  rw [block_13, spinB_at, hrow_at m c t y0 ⟨_, by omega⟩ ⟨_, by omega⟩ hi,
    place_at t y0 ⟨_, by omega⟩ ⟨_, by omega⟩ hi]
  simp only [gq_blk]
  exact congrArg₂ (headB _ _ _ _ _ _ _ _ _) (Fin.ext (show 6 + y1.val / 128 = 6 + (0 * 512 + y1.val) / 128 by omega))
    (Fin.ext (show y1.val % 128 = (0 * 512 + y1.val) % 128 by omega))

/-- The array of the second mixer's keys, transposed. -/
theorem final14 : (dats m 0 c).arrAt 14 cfg0.N = fun i : S128x65536.Idx =>
    headB (m ((c : Thread nD τ).loc main_arg0)) (m ((c : Thread nD τ).loc main_arg1))
      (V m c main_v40) (V m c main_v41)
      (V m c main_v61) (V m c main_v62)
      (m ((c : Thread nD τ).loc main_arg3))
      ⟨(i 1).val / 2048, by have := (i 1).isLt; simp only [S128x65536] at this; change _ < 65536 at this; omega⟩
      ⟨(i 1).val % 2048, by omega⟩ 10
      ⟨(i 0).val, by have := (i 0).isLt; simp only [S128x65536] at this; change _ < 128 at this; omega⟩ := by
  refine (dats m 0 c).arrAt_eq_of_covers 14 _ (by decide +kernel) fun t _ y => ?_
  blk_simp
  rw [after0_14]
  idx_vars y
  obtain ⟨-, -, -, -, h, -, -, ht⟩ := idx' t
  simp only [h, Matrix.cons_val_zero, Matrix.cons_val_one]
  have hi : t.val * 1024 + y1.val = (t.val * 1024 + y1.val) / 2048 * 2048 + (t.val * 1024 + y1.val) % 2048 := by omega
  rw [block_14, spinB_at, hrow_at m c t y1 ⟨_, by omega⟩ ⟨_, by omega⟩ hi,
    place_at t y1 ⟨_, by omega⟩ ⟨_, by omega⟩ hi]
  simp only [gk_blk]
  exact congrArg (headB _ _ _ _ _ _ _ _ _ 10) (Fin.ext (show y0.val = 0 * 128 + y0.val by omega))

/-- The array of the second mixer's values. -/
theorem final15 : (dats m 0 c).arrAt 15 cfg0.N = fun i : S65536x128.Idx =>
    hid (m ((c : Thread nD τ).loc main_arg0)) (m ((c : Thread nD τ).loc main_arg1))
      ⟨(i 0).val / 2048, by have := (i 0).isLt; simp only [S65536x128] at this; change _ < 65536 at this; omega⟩
      ⟨(i 0).val % 2048, by omega⟩
      ⟨1408 + (i 1).val, by have := (i 1).isLt; simp only [S65536x128] at this; change _ < 128 at this; omega⟩ := by
  refine (dats m 0 c).arrAt_eq_of_covers 15 _ (by decide +kernel) fun t _ y => ?_
  blk_simp
  rw [after0_15]
  idx_vars y
  obtain ⟨-, -, -, -, -, h, -, ht⟩ := idx' t
  simp only [h, Matrix.cons_val_zero, Matrix.cons_val_one]
  have hi : t.val * 1024 + y0.val = (t.val * 1024 + y0.val) / 2048 * 2048 + (t.val * 1024 + y0.val) % 2048 := by omega
  rw [block_15, hrow_at m c t y0 ⟨_, by omega⟩ ⟨_, by omega⟩ hi]
  exact congrArg (hid _ _ _ _) (Fin.ext (show 1408 + y1.val = 1408 + (0 * 128 + y1.val) by omega))

/-- The array of the gated columns. -/
theorem final16 : (dats m 0 c).arrAt 16 cfg0.N = fun i : S65536x256.Idx =>
    gated (m ((c : Thread nD τ).loc main_arg0)) (m ((c : Thread nD τ).loc main_arg1))
      (m ((c : Thread nD τ).loc main_arg4)) (m ((c : Thread nD τ).loc main_arg5))
      (m ((c : Thread nD τ).loc main_arg6)) (m ((c : Thread nD τ).loc main_arg7))
      ⟨(i 0).val / 2048, by have := (i 0).isLt; simp only [S65536x256] at this; change _ < 65536 at this; omega⟩
      ⟨(i 0).val % 2048, by omega⟩
      ⟨(i 1).val, by have := (i 1).isLt; simp only [S65536x256] at this; change _ < 256 at this; omega⟩ := by
  refine (dats m 0 c).arrAt_eq_of_covers 16 _ (by decide +kernel) fun t _ y => ?_
  blk_simp
  rw [after0_16]
  idx_vars y
  obtain ⟨-, -, -, -, -, -, h, ht⟩ := idx' t
  simp only [h, Matrix.cons_val_zero, Matrix.cons_val_one]
  have hi : t.val * 1024 + y0.val = (t.val * 1024 + y0.val) / 2048 * 2048 + (t.val * 1024 + y0.val) % 2048 := by omega
  refine (gated_at m c t y0 y1 ⟨_, by omega⟩ ⟨_, by omega⟩ hi).trans ?_
  exact congrArg (gated _ _ _ _ _ _ _ _) (Fin.ext (show y1.val = 0 * 256 + y1.val by omega))

end Cert.ProjIdeal.Row

end
-- ==== Proof.ProjRef.lean ====
/- The reference of the input projection at an index. -/
module

public import proofs.«01_k».proof.Proof.Gen.ProjRefIdeal.Run
public import Idealize.ShloMosaic.Lib.Pointwise

@[expose] public section

set_option maxRecDepth 16384

noncomputable section

namespace Cert.ProjRefIdeal.Row

open Cert.ProjRefIdeal Cert.ProjRefIdeal.Gen Idealize.ShloMosaic Idealize.ShloMosaic.TcCoe Idealize.SL.Sem

/-- The projection. -/
def proj (x : FVec Ideal S32x2048x1024 .f32) (w : FVec Ideal S1024x2048 .f32) : FVec Ideal S32x2048x2048 .f32 :=
  Host.dotGeneral dot_S32x2048x1024_S1024x2048_S32x2048x2048_2_0_01_1_n_n none x w

/-- The projection at an index. -/
theorem proj_at (x : FVec Ideal S32x2048x1024 .f32) (w : FVec Ideal S1024x2048 .f32) (b : Fin 32) (s : Fin 2048) (k : Fin 2048) :
    proj x w (ix3 b s k) =
      ∑ e, x (ix3 b s e) * w (ix2 e k) := by
  pointwise [proj]

/-- The first mixer's queries' columns, by heads. -/
def headsQ (h : FVec Ideal S32x2048x2048 .f32) : FVec Ideal S32x2048x4x2x32 .f32 :=
  shapeCast _ (extractStridedSlice S32x2048x256 ![0, 0, 0] h slices_S32x2048x2048_S32x2048x256_0_0_0)
    shapeCasts_S32x2048x256_S32x2048x4x2x32

/-- The first mixer's queries' columns at an index. -/
theorem headsQ_at (h : FVec Ideal S32x2048x2048 .f32) (b : Fin 32) (s : Fin 2048) (p : Fin 4) (z : Fin 2) (j : Fin 32) :
    headsQ h (ix5 b s p z j) =
      h (ix3 b s ⟨p.val * 64 + z.val * 32 + j.val, by omega⟩) := by
  pointwise [headsQ]

/-- The first mixer's keys' columns, by heads. -/
def headsK (h : FVec Ideal S32x2048x2048 .f32) : FVec Ideal S32x2048x4x2x32 .f32 :=
  shapeCast _ (extractStridedSlice S32x2048x256 ![0, 0, 256] h slices_S32x2048x2048_S32x2048x256_0_0_256)
    shapeCasts_S32x2048x256_S32x2048x4x2x32

/-- The first mixer's keys' columns at an index. -/
theorem headsK_at (h : FVec Ideal S32x2048x2048 .f32) (b : Fin 32) (s : Fin 2048) (p : Fin 4) (z : Fin 2) (j : Fin 32) :
    headsK h (ix5 b s p z j) =
      h (ix3 b s ⟨256 + (p.val * 64 + z.val * 32 + j.val), by omega⟩) := by
  pointwise [headsK]

/-- The second mixer's queries' columns, by heads. -/
def headsG (h : FVec Ideal S32x2048x2048 .f32) : FVec Ideal S32x2048x2x4x64 .f32 :=
  shapeCast _ (extractStridedSlice S32x2048x512 ![0, 0, 768] h slices_S32x2048x2048_S32x2048x512_0_0_768)
    shapeCasts_S32x2048x512_S32x2048x2x4x64

/-- The second mixer's queries' columns at an index. -/
theorem headsG_at (h : FVec Ideal S32x2048x2048 .f32) (b : Fin 32) (s : Fin 2048) (p : Fin 2) (q : Fin 4) (d : Fin 64) :
    headsG h (ix5 b s p q d) =
      h (ix3 b s ⟨768 + (p.val * 256 + q.val * 64 + d.val), by omega⟩) := by
  pointwise [headsG]

/-- The second mixer's keys' columns, by heads. -/
def headsL (h : FVec Ideal S32x2048x2048 .f32) : FVec Ideal S32x2048x2x64 .f32 :=
  shapeCast _ (extractStridedSlice S32x2048x128 ![0, 0, 1280] h slices_S32x2048x2048_S32x2048x128_0_0_1280)
    shapeCasts_S32x2048x128_S32x2048x2x64

/-- The second mixer's keys' columns at an index. -/
theorem headsL_at (h : FVec Ideal S32x2048x2048 .f32) (b : Fin 32) (s : Fin 2048) (p : Fin 2) (d : Fin 64) :
    headsL h (ix4 b s p d) =
      h (ix3 b s ⟨1280 + (p.val * 64 + d.val), by omega⟩) := by
  pointwise [headsL]

/-- A pair's partner, its sign changed where it comes from the upper half. -/
def partner (f : Fin 32 → EReal) (j : Fin 32) : EReal :=
  if h : j.val < 16 then -f ⟨16 + j.val, by omega⟩ else f ⟨j.val - 16, by omega⟩

/-- The first mixer's heads, rotated. -/
def turnA (a : FVec Ideal S32x2048x4x2x32 .f32) (c s : FVec Ideal S2048x32 .f32) : FVec Ideal S32x2048x4x2x32 .f32 :=
  addf (mulf a (broadcastInDim S32x2048x4x2x32 ![0, 1, 2, 3, 4] bcast_S1x2048x1x1x32_S32x2048x4x2x32_0_1_2_3_4
    (broadcastInDim S1x2048x1x1x32 ![1, 2, 3, 4] bcast_S2048x1x1x32_S1x2048x1x1x32_1_2_3_4 (shapeCast _ c
    shapeCasts_S2048x32_S2048x1x1x32)))) (mulf (concatenate S32x2048x4x2x32 4 [⟨S32x2048x4x2x16, (Host.negf
    (extractStridedSlice S32x2048x4x2x16 ![0, 0, 0, 0, 16] a slices_S32x2048x4x2x32_S32x2048x4x2x16_0_0_0_0_16))⟩,
    ⟨S32x2048x4x2x16, (extractStridedSlice S32x2048x4x2x16 ![0, 0, 0, 0, 0] a
    slices_S32x2048x4x2x32_S32x2048x4x2x16_0_0_0_0_0)⟩]
    concatenates_S32x2048x4x2x16_S32x2048x4x2x16_S32x2048x4x2x32_d4) (broadcastInDim S32x2048x4x2x32 ![0, 1, 2, 3, 4]
    bcast_S1x2048x1x1x32_S32x2048x4x2x32_0_1_2_3_4 (broadcastInDim S1x2048x1x1x32 ![1, 2, 3, 4]
    bcast_S2048x1x1x32_S1x2048x1x1x32_1_2_3_4 (shapeCast _ s shapeCasts_S2048x32_S2048x1x1x32))))

/-- The first mixer's heads, rotated, at an index. -/
theorem turnA_at (a : FVec Ideal S32x2048x4x2x32 .f32) (c s : FVec Ideal S2048x32 .f32)
    (b : Fin 32) (t : Fin 2048) (h : Fin 4) (z : Fin 2) (j : Fin 32) :
    turnA a c s (ix5 b t h z j) =
      (a (ix5 b t h z j) * c (ix2 t j) : EReal) + partner (fun j => a (ix5 b t h z j)) j * s (ix2 t j) := by
  pointwise [turnA]
  rfl

/-- The first mixer's queries in the call's order of columns. -/
def packQ (f : FVec Ideal S32x2048x4x2x32 .f32) : FVec Ideal S65536x256 .bf16 :=
  truncf .bf16 (shapeCast _ (transpose S65536x2x2x4x16 [0, 1, 3, 2, 4] (shapeCast _ f
    shapeCasts_S32x2048x4x2x32_S65536x2x4x2x16) transposes_S65536x2x4x2x16_S65536x2x2x4x16_0_1_3_2_4)
    shapeCasts_S65536x2x2x4x16_S65536x256) bitsLt_bf16_f32

/-- The packed queries at an index. -/
theorem packQ_at (f : FVec Ideal S32x2048x4x2x32 .f32) (i : Fin 65536) (k : Fin 256) :
    packQ f (ix2 i k) =
      f (ix5 ⟨i.val / 2048, by omega⟩ ⟨i.val % 2048, by omega⟩
        ⟨k.val / 128 * 2 + k.val / 16 % 4 / 2, by omega⟩ ⟨k.val / 16 % 4 % 2, by omega⟩
        ⟨k.val / 64 % 2 * 16 + k.val % 16, by omega⟩) := by
  pointwise [packQ]

/-- The first mixer's keys in the call's order, transposed. -/
def packK (f : FVec Ideal S32x2048x4x2x32 .f32) : FVec Ideal S256x65536 .bf16 :=
  truncf .bf16 (shapeCast _ (transpose S2x2x4x16x65536 [1, 3, 2, 4, 0] (shapeCast _ f
    shapeCasts_S32x2048x4x2x32_S65536x2x4x2x16) transposes_S65536x2x4x2x16_S2x2x4x16x65536_1_3_2_4_0)
    shapeCasts_S2x2x4x16x65536_S256x65536) bitsLt_bf16_f32

/-- The packed keys at an index. -/
theorem packK_at (f : FVec Ideal S32x2048x4x2x32 .f32) (i : Fin 65536) (k : Fin 256) :
    packK f (ix2 k i) =
      f (ix5 ⟨i.val / 2048, by omega⟩ ⟨i.val % 2048, by omega⟩
        ⟨k.val / 128 * 2 + k.val / 16 % 4 / 2, by omega⟩ ⟨k.val / 16 % 4 % 2, by omega⟩
        ⟨k.val / 64 % 2 * 16 + k.val % 16, by omega⟩) := by
  pointwise [packK]

/-- The first mixer's values' columns. -/
def packV (h : FVec Ideal S32x2048x2048 .f32) : FVec Ideal S65536x256 .bf16 :=
  truncf .bf16 (shapeCast _ (extractStridedSlice S32x2048x256 ![0, 0, 512] h
    slices_S32x2048x2048_S32x2048x256_0_0_512) shapeCasts_S32x2048x256_S65536x256) bitsLt_bf16_f32

/-- The first mixer's values' columns at an index. -/
theorem packV_at (h : FVec Ideal S32x2048x2048 .f32) (i : Fin 65536) (k : Fin 256) :
    packV h (ix2 i k) =
      h (ix3 ⟨i.val / 2048, by omega⟩ ⟨i.val % 2048, by omega⟩ ⟨512 + k.val, by omega⟩) := by
  pointwise [packV]

/-- The second mixer's values' columns. -/
def packW (h : FVec Ideal S32x2048x2048 .f32) : FVec Ideal S65536x128 .bf16 :=
  truncf .bf16 (shapeCast _ (extractStridedSlice S32x2048x128 ![0, 0, 1408] h
    slices_S32x2048x2048_S32x2048x128_0_0_1408) shapeCasts_S32x2048x128_S65536x128) bitsLt_bf16_f32

/-- The second mixer's values' columns at an index. -/
theorem packW_at (h : FVec Ideal S32x2048x2048 .f32) (i : Fin 65536) (k : Fin 128) :
    packW h (ix2 i k) =
      h (ix3 ⟨i.val / 2048, by omega⟩ ⟨i.val % 2048, by omega⟩ ⟨1408 + k.val, by omega⟩) := by
  pointwise [packW]

/-- The second mixer's queries, normed. -/
def normG (a : FVec Ideal S32x2048x2x4x64 .f32) (g : FVec Ideal S64 .f32) : FVec Ideal S32x2048x2x4x64 .f32 :=
  mulf (mulf a (broadcastInDim S32x2048x2x4x64 ![0, 1, 2, 3, 4] bcast_S32x2048x2x4x1_S32x2048x2x4x64_0_1_2_3_4
    (Host.rsqrt (addf (Host.divf (broadcastInDim S32x2048x2x4x1 ![0, 1, 2, 3]
    bcast_S32x2048x2x4_S32x2048x2x4x1_0_1_2_3 (Host.reduceAdd (mulf a a) (constant S_ .f32 0x00000000#32)
    reducesTo_S32x2048x2x4x64_S32x2048x2x4_d4 h_S_)) (broadcastInDim S32x2048x2x4x1 ![] bcast_S_S32x2048x2x4x1
    (constant S_ .f32 0x42800000#32))) (broadcastInDim S32x2048x2x4x1 ![] bcast_S_S32x2048x2x4x1 (constant S_ .f32
    0x3727C5AC#32)))))) (broadcastInDim S32x2048x2x4x64 ![0, 1, 2, 3, 4] bcast_S1x1x1x1x64_S32x2048x2x4x64_0_1_2_3_4
    (broadcastInDim S1x1x1x1x64 ![4] bcast_S64_S1x1x1x1x64_4 g))

/-- The second mixer's normed queries at an index. -/
theorem normG_at (a : FVec Ideal S32x2048x2x4x64 .f32) (g : FVec Ideal S64 .f32) (b : Fin 32) (t : Fin 2048) (p : Fin 2) (q : Fin 4) (d : Fin 64) :
    normG a g (ix5 b t p q d) =
      (a (ix5 b t p q d) * Ideal.rsqrt (Ideal.div (∑ k : Fin 64, a (ix5 b t p q k) * a (ix5 b t p q k) : EReal)
        (Ideal.ofBits .f32 0x42800000#32) + Ideal.ofBits .f32 0x3727C5AC#32) * g (ix1 d) : EReal) := by
  pointwise [normG]

/-- Half of each of the second mixer's queries, rotated. -/
def turnG (a : FVec Ideal S32x2048x2x4x32 .f32) (c s : FVec Ideal S2048x32 .f32) : FVec Ideal S32x2048x2x4x32 .f32 :=
  addf (mulf a (broadcastInDim S32x2048x2x4x32 ![0, 1, 2, 3, 4] bcast_S1x2048x1x1x32_S32x2048x2x4x32_0_1_2_3_4
    (broadcastInDim S1x2048x1x1x32 ![1, 2, 3, 4] bcast_S2048x1x1x32_S1x2048x1x1x32_1_2_3_4 (shapeCast _ c
    shapeCasts_S2048x32_S2048x1x1x32)))) (mulf (concatenate S32x2048x2x4x32 4 [⟨S32x2048x2x4x16, (Host.negf
    (extractStridedSlice S32x2048x2x4x16 ![0, 0, 0, 0, 16] a slices_S32x2048x2x4x32_S32x2048x2x4x16_0_0_0_0_16))⟩,
    ⟨S32x2048x2x4x16, (extractStridedSlice S32x2048x2x4x16 ![0, 0, 0, 0, 0] a
    slices_S32x2048x2x4x32_S32x2048x2x4x16_0_0_0_0_0)⟩]
    concatenates_S32x2048x2x4x16_S32x2048x2x4x16_S32x2048x2x4x32_d4) (broadcastInDim S32x2048x2x4x32 ![0, 1, 2, 3, 4]
    bcast_S1x2048x1x1x32_S32x2048x2x4x32_0_1_2_3_4 (broadcastInDim S1x2048x1x1x32 ![1, 2, 3, 4]
    bcast_S2048x1x1x32_S1x2048x1x1x32_1_2_3_4 (shapeCast _ s shapeCasts_S2048x32_S2048x1x1x32))))

/-- Half of each of the second mixer's queries, rotated, at an index. -/
theorem turnG_at (a : FVec Ideal S32x2048x2x4x32 .f32) (c s : FVec Ideal S2048x32 .f32)
    (b : Fin 32) (t : Fin 2048) (p : Fin 2) (q : Fin 4) (j : Fin 32) :
    turnG a c s (ix5 b t p q j) =
      (a (ix5 b t p q j) * c (ix2 t j) : EReal) + partner (fun j => a (ix5 b t p q j)) j * s (ix2 t j) := by
  pointwise [turnG]
  rfl

/-- The second mixer's queries, each half rotated by its own angles. -/
def axialG (a : FVec Ideal S32x2048x2x4x64 .f32) (cr sr cc sc : FVec Ideal S2048x32 .f32) : FVec Ideal S32x2048x2x4x64 .f32 :=
  concatenate S32x2048x2x4x64 4 [⟨S32x2048x2x4x32, (turnG (extractStridedSlice S32x2048x2x4x32 ![0, 0, 0, 0, 0] a
    slices_S32x2048x2x4x64_S32x2048x2x4x32_0_0_0_0_0) cr sr)⟩, ⟨S32x2048x2x4x32, (turnG (extractStridedSlice
    S32x2048x2x4x32 ![0, 0, 0, 0, 32] a slices_S32x2048x2x4x64_S32x2048x2x4x32_0_0_0_0_32) cc sc)⟩]
    concatenates_S32x2048x2x4x32_S32x2048x2x4x32_S32x2048x2x4x64_d4

/-- The second mixer's rotated queries at an index. -/
theorem axialG_at (a : FVec Ideal S32x2048x2x4x64 .f32) (cr sr cc sc : FVec Ideal S2048x32 .f32)
    (b : Fin 32) (t : Fin 2048) (p : Fin 2) (q : Fin 4) (d : Fin 64) :
    axialG a cr sr cc sc (ix5 b t p q d) =
      if h : d.val < 32 then
        (a (ix5 b t p q d) * cr (ix2 t ⟨d.val, h⟩) : EReal)
          + partner (fun j => a (ix5 b t p q ⟨j.val, by omega⟩)) ⟨d.val, h⟩ * sr (ix2 t ⟨d.val, h⟩)
      else
        (a (ix5 b t p q d) * cc (ix2 t ⟨d.val - 32, by omega⟩) : EReal)
          + partner (fun j => a (ix5 b t p q ⟨32 + j.val, by omega⟩)) ⟨d.val - 32, by omega⟩ * sc (ix2 t ⟨d.val - 32, by omega⟩) := by
  pointwise [axialG]
  simp only [turnG_at]
  refine dite_congr rfl (fun h => ?_) fun h => ?_
  · pointwise
  · pointwise
    rw [show (⟨32 + (d.val - 32), by omega⟩ : Fin 64) = d from Fin.ext (by dsimp only; omega)]

/-- The second mixer's queries in the call's order. -/
def packG (f : FVec Ideal S32x2048x2x4x64 .f32) : FVec Ideal S65536x512 .bf16 :=
  truncf .bf16 (shapeCast _ (transpose S65536x4x2x2x2x16 [0, 2, 4, 1, 3, 5] (shapeCast _ f
    shapeCasts_S32x2048x2x4x64_S65536x2x4x2x2x16) transposes_S65536x2x4x2x2x16_S65536x4x2x2x2x16_0_2_4_1_3_5)
    shapeCasts_S65536x4x2x2x2x16_S65536x512) bitsLt_bf16_f32

/-- The packed queries at an index. -/
theorem packG_at (f : FVec Ideal S32x2048x2x4x64 .f32) (i : Fin 65536) (k : Fin 512) :
    packG f (ix2 i k) =
      f (ix5 ⟨i.val / 2048, by omega⟩ ⟨i.val % 2048, by omega⟩ ⟨k.val / 32 % 2, by omega⟩ ⟨k.val / 128, by omega⟩
        ⟨k.val / 16 % 2 * 32 + k.val / 64 % 2 * 16 + k.val % 16, by omega⟩) := by
  pointwise [packG]

/-- The second mixer's keys, normed. -/
def normL (a : FVec Ideal S32x2048x2x64 .f32) (g : FVec Ideal S64 .f32) : FVec Ideal S32x2048x2x64 .f32 :=
  mulf (mulf a (broadcastInDim S32x2048x2x64 ![0, 1, 2, 3] bcast_S32x2048x2x1_S32x2048x2x64_0_1_2_3 (Host.rsqrt (addf
    (Host.divf (broadcastInDim S32x2048x2x1 ![0, 1, 2] bcast_S32x2048x2_S32x2048x2x1_0_1_2 (Host.reduceAdd (mulf a a)
    (constant S_ .f32 0x00000000#32) reducesTo_S32x2048x2x64_S32x2048x2_d3 h_S_)) (broadcastInDim S32x2048x2x1 ![]
    bcast_S_S32x2048x2x1 (constant S_ .f32 0x42800000#32))) (broadcastInDim S32x2048x2x1 ![] bcast_S_S32x2048x2x1
    (constant S_ .f32 0x3727C5AC#32)))))) (broadcastInDim S32x2048x2x64 ![0, 1, 2, 3]
    bcast_S1x1x1x64_S32x2048x2x64_0_1_2_3 (broadcastInDim S1x1x1x64 ![3] bcast_S64_S1x1x1x64_3 g))

/-- The second mixer's normed keys at an index. -/
theorem normL_at (a : FVec Ideal S32x2048x2x64 .f32) (g : FVec Ideal S64 .f32) (b : Fin 32) (t : Fin 2048) (p : Fin 2) (d : Fin 64) :
    normL a g (ix4 b t p d) =
      (a (ix4 b t p d) * Ideal.rsqrt (Ideal.div (∑ k : Fin 64, a (ix4 b t p k) * a (ix4 b t p k) : EReal)
        (Ideal.ofBits .f32 0x42800000#32) + Ideal.ofBits .f32 0x3727C5AC#32) * g (ix1 d) : EReal) := by
  pointwise [normL]

/-- Half of each of the second mixer's keys, rotated. -/
def turnL (a : FVec Ideal S32x2048x2x32 .f32) (c s : FVec Ideal S2048x32 .f32) : FVec Ideal S32x2048x2x32 .f32 :=
  addf (mulf a (broadcastInDim S32x2048x2x32 ![0, 1, 2, 3] bcast_S1x2048x1x32_S32x2048x2x32_0_1_2_3 (broadcastInDim
    S1x2048x1x32 ![1, 2, 3] bcast_S2048x1x32_S1x2048x1x32_1_2_3 (shapeCast _ c shapeCasts_S2048x32_S2048x1x32))))
    (mulf (concatenate S32x2048x2x32 3 [⟨S32x2048x2x16, (Host.negf (extractStridedSlice S32x2048x2x16 ![0, 0, 0, 16] a
    slices_S32x2048x2x32_S32x2048x2x16_0_0_0_16))⟩, ⟨S32x2048x2x16, (extractStridedSlice S32x2048x2x16 ![0, 0, 0, 0] a
    slices_S32x2048x2x32_S32x2048x2x16_0_0_0_0)⟩] concatenates_S32x2048x2x16_S32x2048x2x16_S32x2048x2x32_d3)
    (broadcastInDim S32x2048x2x32 ![0, 1, 2, 3] bcast_S1x2048x1x32_S32x2048x2x32_0_1_2_3 (broadcastInDim S1x2048x1x32
    ![1, 2, 3] bcast_S2048x1x32_S1x2048x1x32_1_2_3 (shapeCast _ s shapeCasts_S2048x32_S2048x1x32))))

/-- Half of each of the second mixer's keys, rotated, at an index. -/
theorem turnL_at (a : FVec Ideal S32x2048x2x32 .f32) (c s : FVec Ideal S2048x32 .f32)
    (b : Fin 32) (t : Fin 2048) (p : Fin 2) (j : Fin 32) :
    turnL a c s (ix4 b t p j) =
      (a (ix4 b t p j) * c (ix2 t j) : EReal) + partner (fun j => a (ix4 b t p j)) j * s (ix2 t j) := by
  pointwise [turnL]
  rfl

/-- The second mixer's keys, each half rotated by its own angles. -/
def axialL (a : FVec Ideal S32x2048x2x64 .f32) (cr sr cc sc : FVec Ideal S2048x32 .f32) : FVec Ideal S32x2048x2x64 .f32 :=
  concatenate S32x2048x2x64 3 [⟨S32x2048x2x32, (turnL (extractStridedSlice S32x2048x2x32 ![0, 0, 0, 0] a
    slices_S32x2048x2x64_S32x2048x2x32_0_0_0_0) cr sr)⟩, ⟨S32x2048x2x32, (turnL (extractStridedSlice S32x2048x2x32
    ![0, 0, 0, 32] a slices_S32x2048x2x64_S32x2048x2x32_0_0_0_32) cc sc)⟩]
    concatenates_S32x2048x2x32_S32x2048x2x32_S32x2048x2x64_d3

/-- The second mixer's rotated keys at an index. -/
theorem axialL_at (a : FVec Ideal S32x2048x2x64 .f32) (cr sr cc sc : FVec Ideal S2048x32 .f32)
    (b : Fin 32) (t : Fin 2048) (p : Fin 2) (d : Fin 64) :
    axialL a cr sr cc sc (ix4 b t p d) =
      if h : d.val < 32 then
        (a (ix4 b t p d) * cr (ix2 t ⟨d.val, h⟩) : EReal)
          + partner (fun j => a (ix4 b t p ⟨j.val, by omega⟩)) ⟨d.val, h⟩ * sr (ix2 t ⟨d.val, h⟩)
      else
        (a (ix4 b t p d) * cc (ix2 t ⟨d.val - 32, by omega⟩) : EReal)
          + partner (fun j => a (ix4 b t p ⟨32 + j.val, by omega⟩)) ⟨d.val - 32, by omega⟩ * sc (ix2 t ⟨d.val - 32, by omega⟩) := by
  pointwise [axialL]
  simp only [turnL_at]
  refine dite_congr rfl (fun h => ?_) fun h => ?_
  · pointwise
  · pointwise
    rw [show (⟨32 + (d.val - 32), by omega⟩ : Fin 64) = d from Fin.ext (by dsimp only; omega)]

/-- The second mixer's keys in the call's order. -/
def packL (f : FVec Ideal S32x2048x2x64 .f32) : FVec Ideal S128x65536 .bf16 :=
  truncf .bf16 (shapeCast _ (transpose S2x2x2x16x65536 [3, 1, 2, 4, 0] (shapeCast _ f
    shapeCasts_S32x2048x2x64_S65536x2x2x2x16) transposes_S65536x2x2x2x16_S2x2x2x16x65536_3_1_2_4_0)
    shapeCasts_S2x2x2x16x65536_S128x65536) bitsLt_bf16_f32

/-- The packed keys at an index. -/
theorem packL_at (f : FVec Ideal S32x2048x2x64 .f32) (i : Fin 65536) (k : Fin 128) :
    packL f (ix2 k i) =
      f (ix4 ⟨i.val / 2048, by omega⟩ ⟨i.val % 2048, by omega⟩ ⟨k.val / 32 % 2, by omega⟩
        ⟨k.val / 16 % 2 * 32 + k.val / 64 * 16 + k.val % 16, by omega⟩) := by
  pointwise [packL]

/-- The gating's first factor's columns. -/
def colsU (h : FVec Ideal S32x2048x2048 .f32) : FVec Ideal S32x2048x256 .f32 :=
  extractStridedSlice S32x2048x256 ![0, 0, 1536] h slices_S32x2048x2048_S32x2048x256_0_0_1536

/-- The gating's second factor's columns. -/
def colsV (h : FVec Ideal S32x2048x2048 .f32) : FVec Ideal S32x2048x256 .f32 :=
  extractStridedSlice S32x2048x256 ![0, 0, 1792] h slices_S32x2048x2048_S32x2048x256_0_0_1792

/-- The factor's columns at an index. -/
theorem colsU_at (h : FVec Ideal S32x2048x2048 .f32) (b : Fin 32) (s : Fin 2048) (d : Fin 256) :
    colsU h (ix3 b s d) =
      h (ix3 b s ⟨1536 + d.val, by omega⟩) := by
  pointwise [colsU]

/-- The factor's columns at an index. -/
theorem colsV_at (h : FVec Ideal S32x2048x2048 .f32) (b : Fin 32) (s : Fin 2048) (d : Fin 256) :
    colsV h (ix3 b s d) =
      h (ix3 b s ⟨1792 + d.val, by omega⟩) := by
  pointwise [colsV]

/-- The gate. -/
def gelu (v : FVec Ideal S32x2048x256 .f32) : FVec Ideal S32x2048x256 .f32 :=
  mulf v (mulf (broadcastInDim S32x2048x256 ![] bcast_S_S32x2048x256 (constant S_ .f32 0x3F000000#32)) (addf
    (broadcastInDim S32x2048x256 ![] bcast_S_S32x2048x256 (constant S_ .f32 0x3F800000#32)) (Host.tanh (mulf
    (broadcastInDim S32x2048x256 ![] bcast_S_S32x2048x256 (constant S_ .f32 0x3F4C422A#32)) (addf v (mulf
    (broadcastInDim S32x2048x256 ![] bcast_S_S32x2048x256 (constant S_ .f32 0x3D372713#32)) (mulf (mulf v v) v)))))))

/-- The gate at an index. -/
theorem gelu_at (v : FVec Ideal S32x2048x256 .f32) (b : Fin 32) (s : Fin 2048) (d : Fin 256) :
    gelu v (ix3 b s d) =
      (v (ix3 b s d) * (Ideal.ofBits FTy.f32 0x3F000000#32 * (1 + Ideal.tanh (Ideal.ofBits FTy.f32 0x3F4C422A#32
        * (v (ix3 b s d) + Ideal.ofBits FTy.f32 0x3D372713#32 * (v (ix3 b s d) * v (ix3 b s d) * v (ix3 b s d)))))) : EReal) := by
  pointwise [gelu]

/-- The mean beside each entry's row. -/
def mean (z : FVec Ideal S32x2048x256 .f32) : FVec Ideal S32x2048x1 .f32 :=
  Host.divf (broadcastInDim S32x2048x1 ![0, 1] bcast_S32x2048_S32x2048x1_0_1 (Host.reduceAdd z (constant S_ .f32
    0x00000000#32) reducesTo_S32x2048x256_S32x2048_d2 h_S_)) (broadcastInDim S32x2048x1 ![] bcast_S_S32x2048x1
    (constant S_ .f32 0x43800000#32))

/-- The entries less their row's mean. -/
def centred (z : FVec Ideal S32x2048x256 .f32) : FVec Ideal S32x2048x256 .f32 :=
  subf z (broadcastInDim S32x2048x256 ![0, 1, 2] bcast_S32x2048x1_S32x2048x256_0_1_2 (mean z))

/-- The norm. -/
def normed (z : FVec Ideal S32x2048x256 .f32) (g b : FVec Ideal S256 .f32) : FVec Ideal S32x2048x256 .f32 :=
  addf (mulf (mulf (centred z) (broadcastInDim S32x2048x256 ![0, 1, 2] bcast_S32x2048x1_S32x2048x256_0_1_2 (Host.rsqrt
    (addf (Host.divf (broadcastInDim S32x2048x1 ![0, 1] bcast_S32x2048_S32x2048x1_0_1 (Host.reduceAdd (mulf (centred
    z) (centred z)) (constant S_ .f32 0x00000000#32) reducesTo_S32x2048x256_S32x2048_d2 h_S_)) (broadcastInDim
    S32x2048x1 ![] bcast_S_S32x2048x1 (constant S_ .f32 0x43800000#32))) (broadcastInDim S32x2048x1 ![]
    bcast_S_S32x2048x1 (constant S_ .f32 0x3727C5AC#32)))))) (broadcastInDim S32x2048x256 ![0, 1, 2]
    bcast_S1x1x256_S32x2048x256_0_1_2 (broadcastInDim S1x1x256 ![2] bcast_S256_S1x1x256_2 g))) (broadcastInDim
    S32x2048x256 ![0, 1, 2] bcast_S1x1x256_S32x2048x256_0_1_2 (broadcastInDim S1x1x256 ![2] bcast_S256_S1x1x256_2 b))

/-- The centred entries at an index. -/
theorem centred_at (z : FVec Ideal S32x2048x256 .f32) (b : Fin 32) (s : Fin 2048) (d : Fin 256) :
    centred z (ix3 b s d) =
      (z (ix3 b s d) - Ideal.div (∑ k : Fin 256, z (ix3 b s k) : EReal) (Ideal.ofBits FTy.f32 0x43800000#32) : EReal) := by
  pointwise [centred, mean]

/-- The norm at an index. -/
theorem normed_at (z : FVec Ideal S32x2048x256 .f32) (g e : FVec Ideal S256 .f32) (b : Fin 32) (s : Fin 2048) (d : Fin 256) :
    normed z g e (ix3 b s d) =
      (centred z (ix3 b s d) * Ideal.rsqrt (Ideal.div (∑ k : Fin 256, centred z (ix3 b s k) * centred z (ix3 b s k) : EReal)
        (Ideal.ofBits FTy.f32 0x43800000#32) + Ideal.ofBits FTy.f32 0x3727C5AC#32) * g (ix1 d) + e (ix1 d) : EReal) := by
  pointwise [normed]

/-- The gated product, a row for each position. -/
def gated (u n : FVec Ideal S32x2048x256 .f32) (w : FVec Ideal S4x128x128 .f32) (e : FVec Ideal S4x128 .f32) : FVec Ideal S65536x256 .bf16 :=
  truncf .bf16 (shapeCast _ (mulf u (shapeCast _ (addf (transpose S32x16x128x4x64 [1, 2, 4, 0, 3] (Host.dotGeneral
    dot_S32x16x128x4x64_S4x128x128_S4x32x16x64x128_2_2_014_1_3_0 none (shapeCast _ n
    shapeCasts_S32x2048x256_S32x16x128x4x64) w) transposes_S4x32x16x64x128_S32x16x128x4x64_1_2_4_0_3) (broadcastInDim
    S32x16x128x4x64 ![0, 1, 2, 3, 4] bcast_S1x1x128x4x1_S32x16x128x4x64_0_1_2_3_4 (broadcastInDim S1x1x128x4x1 ![2, 3]
    bcast_S128x4_S1x1x128x4x1_2_3 (transpose S128x4 [1, 0] e transposes_S4x128_S128x4_1_0))))
    shapeCasts_S32x16x128x4x64_S32x2048x256)) shapeCasts_S32x2048x256_S65536x256) bitsLt_bf16_f32

/-- The gated product at an index. -/
theorem gated_at (u n : FVec Ideal S32x2048x256 .f32) (w : FVec Ideal S4x128x128 .f32) (e : FVec Ideal S4x128 .f32) (i : Fin 65536) (d : Fin 256) :
    gated u n w e (ix2 i d) =
      (u (ix3 ⟨i.val / 2048, by omega⟩ ⟨i.val % 2048, by omega⟩ d)
        * ((∑ q : Fin 128, n (ix3 ⟨i.val / 2048, by omega⟩ ⟨i.val % 2048 / 128 * 128 + q.val, by omega⟩ d)
          * w (ix3 ⟨d.val / 64, by omega⟩ ⟨i.val % 2048 % 128, by omega⟩ q))
          + e (ix2 ⟨d.val / 64, by omega⟩ ⟨i.val % 2048 % 128, by omega⟩)) : EReal) := by
  pointwise [gated]

/-- The frequencies of the 16 pairs. -/
def freq : FVec Ideal S16 .f32 :=
  Host.divf (broadcastInDim S16 ![] bcast_S_S16 (constant S_ .f32 0x3F800000#32)) (Host.powf (broadcastInDim S16 ![]
    bcast_S_S16 (constant S_ .f32 0x461C4000#32)) (Host.divf (addf (broadcastInDim S16 ![] bcast_S_S16 (constant S_ .f32
    0x00000000#32)) (mulf (broadcastInDim S16 ![] bcast_S_S16 (constant S_ .f32 0x40000000#32)) (sitofp .f32 (iotaInDim
    S16 32 0)))) (broadcastInDim S16 ![] bcast_S_S16 (constant S_ .f32 0x42000000#32))))

/-- A position's number times each frequency. -/
def turns (p : IVec S2048 32) : FVec Ideal S2048x16 .f32 :=
  mulf (broadcastInDim S2048x16 ![0, 1] bcast_S2048x1_S2048x16_0_1 (broadcastInDim S2048x1 ![0] bcast_S2048_S2048x1_0
    (sitofp .f32 p))) (broadcastInDim S2048x16 ![0, 1] bcast_S1x16_S2048x16_0_1 (broadcastInDim S1x16 ![1]
    bcast_S16_S1x16_1 freq))

/-- The angles: a pair's two entries turn by the same one. -/
def angles (p : IVec S2048 32) : FVec Ideal S2048x32 .f32 :=
  concatenate S2048x32 1 [⟨S2048x16, turns p⟩, ⟨S2048x16, turns p⟩] concatenates_S2048x16_S2048x16_S2048x32_d1

/-- The angles' cosines. -/
def cosines (p : IVec S2048 32) : FVec Ideal S2048x32 .f32 := Host.cos (angles p)

/-- The angles' sines. -/
def sines (p : IVec S2048 32) : FVec Ideal S2048x32 .f32 := Host.sin (angles p)

/-- The positions in the sequence. -/
def along : IVec S2048 32 := iotaInDim S2048 32 0

/-- The positions' rows in the grid. -/
def down : IVec S2048 32 :=
  shapeCast _ (broadcastInDim S32x64 ![0] bcast_S32_S32x64_0 (iotaInDim S32 32 0)) shapeCasts_S32x64_S2048

/-- The positions' columns in the grid. -/
def across : IVec S2048 32 :=
  shapeCast _ (broadcastInDim S32x64 ![0, 1] bcast_S1x64_S32x64_0_1 (shapeCast _ (iotaInDim S64 32 0)
    shapeCasts_S64_S1x64)) shapeCasts_S32x64_S2048

/-- The reference's run ends with its seven results, and its arguments as they were. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v253) =
        packQ (turnA (headsQ (proj (m ((c : Thread nD τ).loc main_arg0)) (m ((c : Thread nD τ).loc main_arg1))))
          (cosines along) (sines along))
      ∧ r.2.mem ((c : Thread nD τ).loc main_v257) =
        packK (turnA (headsK (proj (m ((c : Thread nD τ).loc main_arg0)) (m ((c : Thread nD τ).loc main_arg1))))
          (cosines along) (sines along))
      ∧ r.2.mem ((c : Thread nD τ).loc main_v259) =
        packV (proj (m ((c : Thread nD τ).loc main_arg0)) (m ((c : Thread nD τ).loc main_arg1)))
      ∧ r.2.mem ((c : Thread nD τ).loc main_v263) =
        packG (axialG (normG (headsG (proj (m ((c : Thread nD τ).loc main_arg0)) (m ((c : Thread nD τ).loc main_arg1))))
          (m ((c : Thread nD τ).loc main_arg2))) (cosines down) (sines down) (cosines across)
            (sines across))
      ∧ r.2.mem ((c : Thread nD τ).loc main_v267) =
        packL (axialL (normL (headsL (proj (m ((c : Thread nD τ).loc main_arg0)) (m ((c : Thread nD τ).loc main_arg1))))
          (m ((c : Thread nD τ).loc main_arg3))) (cosines down) (sines down) (cosines across)
            (sines across))
      ∧ r.2.mem ((c : Thread nD τ).loc main_v269) =
        packW (proj (m ((c : Thread nD τ).loc main_arg0)) (m ((c : Thread nD τ).loc main_arg1)))
      ∧ r.2.mem ((c : Thread nD τ).loc main_v271) =
        gated (gelu (colsU (proj (m ((c : Thread nD τ).loc main_arg0)) (m ((c : Thread nD τ).loc main_arg1)))))
          (normed (gelu (colsV (proj (m ((c : Thread nD τ).loc main_arg0)) (m ((c : Thread nD τ).loc main_arg1)))))
            (m ((c : Thread nD τ).loc main_arg4)) (m ((c : Thread nD τ).loc main_arg5))) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run Cert.ProjRefIdeal.defs _ _).mono (fun _ h c => ?_) (Cert.ProjRefIdeal.Value.run (F := Ideal) m ρ)
  obtain ⟨h0, h1, h2, h3, h4, h5, h6, h7⟩ := h c
  exact ⟨h0.trans rfl, h1.trans rfl, h2.trans rfl, h3.trans rfl, h4.trans rfl, h5.trans rfl, h6.trans rfl, h7⟩

end Cert.ProjRefIdeal.Row

end
-- ==== Proof.ProjMath.lean ====
/- The input projection's results against its reference's, element by element. -/
module

public import proofs.«01_k».proof.Proof.ProjValue
public import proofs.«01_k».proof.Proof.ProjRef

@[expose] public section

set_option maxRecDepth 16384

noncomputable section

namespace Cert.ProjMath

open Idealize.ShloMosaic Idealize.ShloMosaic.TcCoe Idealize.SL.Sem
open Cert.ProjIdeal.Row
open Cert.GqaIdeal.Row (headOf placeOf sum_lanes)
open Cert.ProjRefIdeal.Row (proj partner headsQ headsK headsG headsL turnA normG normL axialG axialL colsU colsV)
open Cert.ProjRefIdeal (S32x2048x1024 S1024x2048 S2048x32 S64 S256 S4x128x128 S4x128)

/-- A rotated lane is a rotated place of the 32, where the lanes hold the 32 numbers' halves 64 apart. -/
theorem rope_partner (h cos sin : Fin 128 → EReal) (l : Fin 128) (f : Fin 32 → EReal) (j j' : Fin 32)
    (hj : j.val = l.val / 64 * 16 + l.val % 16) (hj' : j'.val = (j.val + 16) % 32)
    (h0 : h l = f j) (h1 : h (turn l) = f j') (C S : EReal) (hC : cos l = C) (hS : sin l = S) :
    rope h cos (signed sin) l = f j * C + partner f j * S := by
  subst hC hS
  unfold rope signed partner
  rw [h0, h1]
  by_cases hl : l.val / 64 < 1
  · rw [if_pos hl, dif_pos (by omega), show (⟨16 + j.val, by omega⟩ : Fin 32) = j' from Fin.ext (by dsimp only; omega),
      mul_neg, neg_mul]
  · rw [if_neg hl, dif_neg (by omega), show (⟨j.val - 16, by omega⟩ : Fin 32) = j' from Fin.ext (by dsimp only; omega)]

/-- Dividing by 64 is multiplying by a 64th. -/
theorem div_64 (x : EReal) :
    Ideal.div x (Ideal.ofBits FTy.f32 0x42800000#32) = x * Ideal.ofBits FTy.f32 0x3C800000#32 := by
  rw [show Ideal.ofBits FTy.f32 0x42800000#32 = ((64 : ℝ) : EReal) by simp [Ideal.ofBits, Ideal.ieee]; rw [← EReal.coe_mul]; norm_num,
    show Ideal.ofBits FTy.f32 0x3C800000#32 = ((1 / 64 : ℝ) : EReal) by simp [Ideal.ofBits, Ideal.ieee]; rw [← EReal.coe_mul]; norm_num,
    Ideal.div_coe (by norm_num)]

/-- A normed lane is a normed place of its head. -/
theorem rms_norm (h γ : Fin 128 → EReal) (l : Fin 128) (a : Fin 2 → Fin 64 → EReal) (G : Fin 64 → EReal)
    (hh : ∀ k, h k = a (headOf k) (placeOf k)) (hg : ∀ k, γ k = G (placeOf k)) :
    rms h γ l = a (headOf l) (placeOf l)
      * Ideal.rsqrt (Ideal.div (∑ d, a (headOf l) d * a (headOf l) d) (Ideal.ofBits FTy.f32 0x42800000#32)
        + Ideal.ofBits FTy.f32 0x3727C5AC#32) * G (placeOf l) := by
  unfold rms
  rw [hg l, hh l, div_64, ← sum_lanes (headOf l) fun d => a (headOf l) d * a (headOf l) d]
  refine congrArg (fun z => a (headOf l) (placeOf l) * Ideal.rsqrt (z * _ + _) * G (placeOf l)) ?_
  refine Finset.sum_congr rfl fun k _ => ?_
  by_cases hk : k.val % 64 / 32 = l.val % 64 / 32
  · exact (if_pos hk).trans (((congrArg (fun z => z * z) (hh k)).trans (by
      rw [show headOf k = headOf l from Fin.ext hk])).trans (if_pos hk).symm)
  · exact (if_neg hk).trans (if_neg hk).symm

/-- The second mixer's rotation of a lane is the rotation of its place of the head's 64. -/
theorem spinB_eq (cr sr cc sc : S2048x32.Idx → EReal) (h : Fin 128 → EReal) (N : Fin 64 → EReal) (s : Fin 2048)
    (l : Fin 128) (h0 : h l = N (placeOf l)) (h1 : h (turn l) = N (placeOf (turn l))) (d : Fin 64)
    (hd : d = placeOf l) :
    spinB cr sr cc sc h s l = if hd : d.val < 32 then
        N d * cr (ix2 s ⟨d.val, hd⟩) + partner (fun j => N ⟨j.val, by omega⟩) ⟨d.val, hd⟩ * sr (ix2 s ⟨d.val, hd⟩)
      else
        N d * cc (ix2 s ⟨d.val - 32, by omega⟩)
          + partner (fun j => N ⟨32 + j.val, by omega⟩) ⟨d.val - 32, by omega⟩ * sc (ix2 s ⟨d.val - 32, by omega⟩) := by
  subst hd
  have e0 : (placeOf l).val = l.val % 32 / 16 * 32 + l.val / 64 * 16 + l.val % 16 := rfl
  have e1 : (placeOf (turn l)).val = l.val % 32 / 16 * 32 + (l.val / 64 * 16 + l.val % 16 + 16) % 32 := by
    clear h0 h1 e0; revert l; decide +kernel
  by_cases hd : (placeOf l).val < 32
  · rw [dif_pos hd]
    have hs : spot l = ⟨(placeOf l).val, hd⟩ := Fin.ext (by simp only [spot]; omega)
    exact rope_partner h _ _ l (fun j => N ⟨j.val, by omega⟩) ⟨(placeOf l).val, hd⟩
      ⟨(placeOf (turn l)).val, by omega⟩ (by dsimp only; omega) (by dsimp only; omega) h0 h1 _ _
      ((if_pos (by omega)).trans (congrArg (fun j => cr (ix2 s j)) hs))
      ((if_pos (by omega)).trans (congrArg (fun j => sr (ix2 s j)) hs))
  · rw [dif_neg hd]
    have hs : spot l = ⟨(placeOf l).val - 32, by omega⟩ := Fin.ext (by simp only [spot]; omega)
    have f0 : (⟨32 + ((placeOf l).val - 32), by omega⟩ : Fin 64) = placeOf l := Fin.ext (by dsimp only; omega)
    have f1 : (⟨32 + ((placeOf (turn l)).val - 32), by omega⟩ : Fin 64) = placeOf (turn l) :=
      Fin.ext (by dsimp only; omega)
    have := rope_partner h (axial (fun l => cr (ix2 s (spot l))) fun l => cc (ix2 s (spot l)))
      (axial (fun l => sr (ix2 s (spot l))) fun l => sc (ix2 s (spot l))) l (fun j => N ⟨32 + j.val, by omega⟩) ⟨(placeOf l).val - 32, by omega⟩
      ⟨(placeOf (turn l)).val - 32, by omega⟩ (by dsimp only; omega) (by dsimp only; omega)
      (h0.trans (congrArg N f0.symm)) (h1.trans (congrArg N f1.symm)) _ _
      ((if_neg (by omega)).trans (congrArg (fun j => cc (ix2 s j)) hs))
      ((if_neg (by omega)).trans (congrArg (fun j => sc (ix2 s j)) hs))
    refine this.trans ?_
    dsimp only
    rw [f0]

variable (x : S32x2048x1024.Idx → EReal) (w : S1024x2048.Idx → EReal)

/-- A column of the call's projection is the reference's. -/
theorem hid_proj (b : Fin 32) (s : Fin 2048) (k f : Fin 2048) (hf : source k.val = f.val) :
    hid x w b s k = proj x w (ix3 b s f) := by
  refine Eq.trans ?_ (Cert.ProjRefIdeal.Row.proj_at x w b s f).symm
  exact Finset.sum_congr rfl fun e _ => congrArg (fun f => x (ix3 b s e) * w (ix2 e f)) (Fin.ext hf)

/-- The first mixer's queries. -/
theorem headA_queries (ca sa : S2048x32.Idx → EReal) (b : Fin 32) (s : Fin 2048) (k : Fin 256) :
    headA x w ca sa b s ⟨k.val / 128, by omega⟩ ⟨k.val % 128, by omega⟩
      = turnA (headsQ (proj x w)) ca sa (ix5 b s ⟨k.val / 128 * 2 + k.val / 16 % 4 / 2, by omega⟩
        ⟨k.val / 16 % 4 % 2, by omega⟩ ⟨k.val / 64 % 2 * 16 + k.val % 16, by omega⟩) := by
  refine Eq.trans ?_ (Cert.ProjRefIdeal.Row.turnA_at _ _ _ _ _ _ _ _).symm
  unfold headA spinA
  refine rope_partner _ _ _ ⟨k.val % 128, by omega⟩ (fun j => headsQ (proj x w) (ix5 b s
    ⟨k.val / 128 * 2 + k.val / 16 % 4 / 2, by omega⟩ ⟨k.val / 16 % 4 % 2, by omega⟩ j))
    ⟨k.val / 64 % 2 * 16 + k.val % 16, by omega⟩
    ⟨(k.val / 64 % 2 * 16 + k.val % 16 + 16) % 32, by omega⟩ ?_ rfl ?_ ?_ _ _ ?_ ?_
  · dsimp only; omega
  · refine (hid_proj x w b s _ _ ?_).trans (Cert.ProjRefIdeal.Row.headsQ_at _ _ _ _ _ _).symm
    revert k; decide +kernel
  · refine (hid_proj x w b s _ _ ?_).trans (Cert.ProjRefIdeal.Row.headsQ_at _ _ _ _ _ _).symm
    revert k; decide +kernel
  · exact congrArg (fun j => ca (ix2 s j)) (Fin.ext (by simp only [spot]; omega))
  · exact congrArg (fun j => sa (ix2 s j)) (Fin.ext (by simp only [spot]; omega))

/-- The first mixer's keys. -/
theorem headA_keys (ca sa : S2048x32.Idx → EReal) (b : Fin 32) (s : Fin 2048) (k : Fin 256) :
    headA x w ca sa b s ⟨2 + k.val / 128, by omega⟩ ⟨k.val % 128, by omega⟩
      = turnA (headsK (proj x w)) ca sa (ix5 b s ⟨k.val / 128 * 2 + k.val / 16 % 4 / 2, by omega⟩
        ⟨k.val / 16 % 4 % 2, by omega⟩ ⟨k.val / 64 % 2 * 16 + k.val % 16, by omega⟩) := by
  refine Eq.trans ?_ (Cert.ProjRefIdeal.Row.turnA_at _ _ _ _ _ _ _ _).symm
  unfold headA spinA
  refine rope_partner _ _ _ ⟨k.val % 128, by omega⟩ (fun j => headsK (proj x w) (ix5 b s
    ⟨k.val / 128 * 2 + k.val / 16 % 4 / 2, by omega⟩ ⟨k.val / 16 % 4 % 2, by omega⟩ j))
    ⟨k.val / 64 % 2 * 16 + k.val % 16, by omega⟩
    ⟨(k.val / 64 % 2 * 16 + k.val % 16 + 16) % 32, by omega⟩ ?_ rfl ?_ ?_ _ _ ?_ ?_
  · dsimp only; omega
  · refine (hid_proj x w b s _ _ ?_).trans (Cert.ProjRefIdeal.Row.headsK_at _ _ _ _ _ _).symm
    revert k; decide +kernel
  · refine (hid_proj x w b s _ _ ?_).trans (Cert.ProjRefIdeal.Row.headsK_at _ _ _ _ _ _).symm
    revert k; decide +kernel
  · exact congrArg (fun j => ca (ix2 s j)) (Fin.ext (by simp only [spot]; omega))
  · exact congrArg (fun j => sa (ix2 s j)) (Fin.ext (by simp only [spot]; omega))

/-- The second mixer's queries. -/
theorem headB_queries (cr sr cc sc : S2048x32.Idx → EReal) (γ : S64.Idx → EReal) (b : Fin 32) (s : Fin 2048)
    (k : Fin 512) :
    headB x w cr sr cc sc γ b s ⟨6 + k.val / 128, by omega⟩ ⟨k.val % 128, by omega⟩
      = axialG (normG (headsG (proj x w)) γ) cr sr cc sc (ix5 b s ⟨k.val / 32 % 2, by omega⟩ ⟨k.val / 128, by omega⟩
        ⟨k.val / 16 % 2 * 32 + k.val / 64 % 2 * 16 + k.val % 16, by omega⟩) := by
  have hn : ∀ l : Fin 128, rms (seg (hid x w b s) ⟨6 + k.val / 128, by omega⟩) (fun l => γ (ix1 (placeOf l))) l
      = normG (headsG (proj x w)) γ (ix5 b s (headOf l) ⟨k.val / 128, by omega⟩ (placeOf l)) := fun l => by
    refine Eq.trans ?_ (Cert.ProjRefIdeal.Row.normG_at _ _ _ _ _ _ _).symm
    refine rms_norm _ _ l (fun p d => headsG (proj x w) (ix5 b s p ⟨k.val / 128, by omega⟩ d)) (fun d => γ (ix1 d))
      (fun l => ?_) fun _ => rfl
    refine (hid_proj x w b s _ _ ?_).trans (Cert.ProjRefIdeal.Row.headsG_at _ _ _ _ _ _).symm
    have key : ∀ (q : Fin 4) (l : Fin 128), source ((6 + q.val) * 128 + l.val)
        = 768 + ((headOf l).val * 256 + q.val * 64 + (placeOf l).val) := by decide +kernel
    exact key ⟨k.val / 128, by omega⟩ l
  refine Eq.trans ?_ (Cert.ProjRefIdeal.Row.axialG_at _ _ _ _ _ _ _ _ _ _).symm
  have hh : ∀ l : Fin 128, l.val % 64 / 32 = k.val % 64 / 32 → headOf l = ⟨k.val / 32 % 2, by omega⟩ := fun l hl =>
    Fin.ext (show l.val % 64 / 32 = k.val / 32 % 2 by omega)
  refine spinB_eq cr sr cc sc _
    (fun d => normG (headsG (proj x w)) γ (ix5 b s ⟨k.val / 32 % 2, by omega⟩ ⟨k.val / 128, by omega⟩ d)) s
    ⟨k.val % 128, by omega⟩ ?_ ?_ _ (Fin.ext ?_)
  · rw [hn, hh _ (by dsimp only; omega)]
  · rw [hn, hh _ (by simp only [turn]; omega)]
  · simp only [placeOf]; omega

/-- The second mixer's keys. -/
theorem headB_keys (cr sr cc sc : S2048x32.Idx → EReal) (γ : S64.Idx → EReal) (b : Fin 32) (s : Fin 2048)
    (k : Fin 128) :
    headB x w cr sr cc sc γ b s 10 k
      = axialL (normL (headsL (proj x w)) γ) cr sr cc sc (ix4 b s ⟨k.val / 32 % 2, by omega⟩
        ⟨k.val / 16 % 2 * 32 + k.val / 64 * 16 + k.val % 16, by omega⟩) := by
  have hn : ∀ l : Fin 128, rms (seg (hid x w b s) 10) (fun l => γ (ix1 (placeOf l))) l
      = normL (headsL (proj x w)) γ (ix4 b s (headOf l) (placeOf l)) := fun l => by
    refine Eq.trans ?_ (Cert.ProjRefIdeal.Row.normL_at _ _ _ _ _ _).symm
    refine rms_norm _ _ l (fun p d => headsL (proj x w) (ix4 b s p d)) (fun d => γ (ix1 d))
      (fun l => ?_) fun _ => rfl
    refine (hid_proj x w b s _ _ ?_).trans (Cert.ProjRefIdeal.Row.headsL_at _ _ _ _ _).symm
    revert l; decide +kernel
  refine Eq.trans ?_ (Cert.ProjRefIdeal.Row.axialL_at _ _ _ _ _ _ _ _ _).symm
  have hh : ∀ l : Fin 128, l.val % 64 / 32 = k.val % 64 / 32 → headOf l = ⟨k.val / 32 % 2, by omega⟩ := fun l hl =>
    Fin.ext (show l.val % 64 / 32 = k.val / 32 % 2 by omega)
  refine spinB_eq cr sr cc sc _ (fun d => normL (headsL (proj x w)) γ (ix4 b s ⟨k.val / 32 % 2, by omega⟩ d)) s
    k ?_ ?_ _ (Fin.ext ?_)
  · rw [hn, hh _ rfl]
  · rw [hn, hh _ (by simp only [turn]; omega)]
  · simp only [placeOf]; omega

/-- The gated columns. -/
theorem gated_eq (g e : S256.Idx → EReal) (ws : S4x128x128.Idx → EReal) (bs : S4x128.Idx → EReal) (i : Fin 65536)
    (d : Fin 256) :
    gated x w g e ws bs ⟨i.val / 2048, by omega⟩ ⟨i.val % 2048, by omega⟩ d
      = Cert.ProjRefIdeal.Row.gated (Cert.ProjRefIdeal.Row.gelu (colsU (proj x w)))
          (Cert.ProjRefIdeal.Row.normed (Cert.ProjRefIdeal.Row.gelu (colsV (proj x w))) g e) ws bs (ix2 i d) := by
  have hk : ∀ (b : Fin 32) (s k : Fin 2048), 1408 ≤ k.val → hid x w b s k = proj x w (ix3 b s k) := fun b s k hk =>
    hid_proj x w b s k k ((if_neg (by omega)).trans (if_neg (by omega)))
  refine Eq.trans ?_ (Cert.ProjRefIdeal.Row.gated_at _ _ _ _ _ _).symm
  simp only [Cert.ProjRefIdeal.Row.gelu_at, Cert.ProjRefIdeal.Row.normed_at, Cert.ProjRefIdeal.Row.centred_at,
    Cert.ProjRefIdeal.Row.colsU_at, Cert.ProjRefIdeal.Row.colsV_at]
  unfold gated gate
  rw [hk _ _ _ (by dsimp only; omega)]
  simp only [fun (b : Fin 32) (s : Fin 2048) (d : Fin 256) =>
    hk b s ⟨1792 + d.val, by omega⟩ (by dsimp only; omega)]
  refine congrArg₂ (· * ·) rfl ((add_comm _ _).trans (congrArg (· + _) (Finset.sum_congr rfl fun q _ => mul_comm _ _)))

end Cert.ProjMath

end
-- ==== Proof.ProjAngle.lean ====
/- The tables of cosines and sines the host computes for the input projection's call are the reference's. -/
module

public import proofs.«01_k».proof.Proof.ProjHost
public import proofs.«01_k».proof.Proof.ProjRef
public import Idealize.ShloMosaic.Lib.Pointwise
public import Idealize.ShloMosaic.Lib.Claim

@[expose] public section

set_option maxRecDepth 16384

noncomputable section

namespace Cert.ProjIdeal.Row

open Cert.ProjIdeal Cert.ProjIdeal.Gen Idealize.ShloMosaic Idealize.ShloMosaic.TcCoe Idealize.SL.Sem
open Cert.ProjRefIdeal.Row (cosines sines along down across)

variable (m : (ℓ : Loc nD τ sig) → Buf (Elt Ideal) ℓ) (c : Dev nD)

/-- The quotient by a number, rounded down, as the host computes it. -/
def quot (p : IVec S2048 32) (w : IVec S_ 32) : IVec S2048 32 :=
  select (andi (cmpi .ne (signi p) (broadcastInDim S2048 ![] bcast_S_S2048 (signi w)))
      (cmpi .ne (Host.remsi p (broadcastInDim S2048 ![] bcast_S_S2048 w))
        (broadcastInDim S2048 ![] bcast_S_S2048 (constantI S_ 32 0#32))))
    (subi (Host.divsi p (broadcastInDim S2048 ![] bcast_S_S2048 w))
      (broadcastInDim S2048 ![] bcast_S_S2048 (constantI S_ 32 1#32)))
    (Host.divsi p (broadcastInDim S2048 ![] bcast_S_S2048 w))

/-- A divisor, one in place of zero. -/
def divisor (w : IVec S_ 32) : IVec S_ 32 :=
  select (cmpi .eq w (constantI S_ 32 0#32)) (constantI S_ 32 1#32) w

/-- The remainder by a number, of the number's sign, as the host computes it. -/
def remd (p : IVec S2048 32) (w : IVec S_ 32) : IVec S2048 32 :=
  select (andi (cmpi .ne (cmpi .slt (Host.remsi p (broadcastInDim S2048 ![] bcast_S_S2048 (divisor w)))
          (broadcastInDim S2048 ![] bcast_S_S2048 (constantI S_ 32 0#32)))
        (broadcastInDim S2048 ![] bcast_S_S2048 (cmpi .slt (divisor w) (constantI S_ 32 0#32))))
      (cmpi .ne (Host.remsi p (broadcastInDim S2048 ![] bcast_S_S2048 (divisor w)))
        (broadcastInDim S2048 ![] bcast_S_S2048 (constantI S_ 32 0#32))))
    (addi (Host.remsi p (broadcastInDim S2048 ![] bcast_S_S2048 (divisor w)))
      (broadcastInDim S2048 ![] bcast_S_S2048 (divisor w)))
    (Host.remsi p (broadcastInDim S2048 ![] bcast_S_S2048 (divisor w)))

/-- The positions' quotients by 64 are their rows. -/
theorem quot_eq : quot along (constantI S_ 32 64#32) = down := by
  funext j
  idx_vars j
  pointwise [quot, along, down]
  revert j0
  decide +kernel

/-- The positions' remainders by 64 are their columns. -/
theorem remd_eq : remd along (constantI S_ 32 64#32) = across := by
  funext j
  idx_vars j
  pointwise [remd, divisor, along, across]
  revert j0
  decide +kernel

/-- The positions. -/
theorem along_eq : entry1 m c (Proc.devRef .tc main_v0) = along := by
  unfold entry1
  entry_read
  rfl

/-- The grid's width, for the rows. -/
theorem width_eq : entry1 m c (Proc.devRef .tc main_c_8) = constantI S_ 32 64#32 := by
  unfold entry1
  entry_read
  rfl

/-- The positions' rows. -/
theorem down_eq : entry2 m c (Proc.devRef .tc main_v21) = down := by
  unfold entry2
  entry_read
  rw [along_eq, width_eq]
  exact quot_eq

/-- The positions reach the columns' computation. -/
theorem along_eq' : entry3 m c (Proc.devRef .tc main_v0) = along := by
  unfold entry3
  entry_read
  unfold entry2
  entry_read
  exact along_eq m c

/-- The positions' columns. -/
theorem across_eq : entry4 m c (Proc.devRef .tc main_v42) = across := by
  unfold entry4
  entry_read
  rw [along_eq']
  unfold entry3
  entry_read
  exact remd_eq

/-- The first mixer's cosines. -/
theorem cosines_along : V m c main_v19 = cosines along := by
  rw [V_split]
  entry_read
  unfold entry4
  entry_read
  unfold entry3
  entry_read
  unfold entry2
  entry_read
  unfold entry1
  entry_read
  rfl

/-- The first mixer's sines. -/
theorem sines_along : V m c main_v20 = sines along := by
  rw [V_split]
  entry_read
  unfold entry4
  entry_read
  unfold entry3
  entry_read
  unfold entry2
  entry_read
  unfold entry1
  entry_read
  rfl

/-- The rows' cosines. -/
theorem cosines_down : V m c main_v40 = cosines down := by
  rw [V_split]
  entry_read
  unfold entry4
  entry_read
  unfold entry3
  entry_read
  rw [down_eq]
  rfl

/-- The rows' sines. -/
theorem sines_down : V m c main_v41 = sines down := by
  rw [V_split]
  entry_read
  unfold entry4
  entry_read
  unfold entry3
  entry_read
  rw [down_eq]
  rfl

/-- The columns' cosines. -/
theorem cosines_across : V m c main_v61 = cosines across := by
  rw [V_split]
  entry_read
  rw [across_eq]
  rfl

/-- The columns' sines. -/
theorem sines_across : V m c main_v62 = sines across := by
  rw [V_split]
  entry_read
  rw [across_eq]
  rfl

end Cert.ProjIdeal.Row

end
-- ==== Proof.ProjClaim.lean ====
/- The input projection against its reference: equal results from launches that agree on the arguments. -/
module

public import proofs.«01_k».proof.Defs
public import proofs.«01_k».proof.Proof.ProjMath
public import proofs.«01_k».proof.Proof.ProjAngle
public import Idealize.ShloMosaic.Adequacy
public import Idealize.ShloMosaic.Init
public import Idealize.ShloMosaic.Lib.Quiescent

@[expose] public section

set_option maxRecDepth 16384

noncomputable section

namespace Cert.ProjMath

open Idealize.ShloMosaic Idealize.ShloMosaic.TcCoe Idealize.SL.Sem
open Cert.ProjIdeal.Row
open Cert.ProjRefIdeal.Row (proj headsQ headsK headsG headsL turnA normG normL axialG axialL colsU colsV
  packQ packK packV packG packL packW packQ_at packK_at packV_at packG_at packL_at packW_at)
open Cert.ProjRefIdeal (S32x2048x1024 S1024x2048 S2048x32 S64 S256 S4x128x128 S4x128 S65536x256 S256x65536 S65536x512
  S128x65536 S65536x128)

/-- The first mixer's queries are the reference's. -/
theorem queriesA {x x' : S32x2048x1024.Idx → EReal} {w w' : S1024x2048.Idx → EReal} {ca ca' : S2048x32.Idx → EReal} {sa sa' : S2048x32.Idx → EReal}
    (hx : x' = x) (hw : w' = w) (hca : ca' = ca) (hsa : sa' = sa) :
    packQ (turnA (headsQ (proj x' w')) ca' sa') = fun i : S65536x256.Idx => headA x w ca sa
      ⟨(i 0).val / 2048, by have := (i 0).isLt; simp only [S65536x256] at this; change _ < 65536 at this; omega⟩
      ⟨(i 0).val % 2048, by omega⟩
      ⟨(i 1).val / 128, by have := (i 1).isLt; simp only [S65536x256] at this; change _ < 256 at this; omega⟩ ⟨(i 1).val % 128, by omega⟩ := by
  subst hx hw hca hsa
  funext i
  idx_vars i
  exact (packQ_at _ _ _).trans (headA_queries _ _ _ _ _ _ _).symm

/-- The first mixer's keys are the reference's. -/
theorem keysA {x x' : S32x2048x1024.Idx → EReal} {w w' : S1024x2048.Idx → EReal} {ca ca' : S2048x32.Idx → EReal} {sa sa' : S2048x32.Idx → EReal}
    (hx : x' = x) (hw : w' = w) (hca : ca' = ca) (hsa : sa' = sa) :
    packK (turnA (headsK (proj x' w')) ca' sa') = fun i : S256x65536.Idx => headA x w ca sa
      ⟨(i 1).val / 2048, by have := (i 1).isLt; simp only [S256x65536] at this; change _ < 65536 at this; omega⟩
      ⟨(i 1).val % 2048, by omega⟩
      ⟨2 + (i 0).val / 128, by have := (i 0).isLt; simp only [S256x65536] at this; change _ < 256 at this; omega⟩ ⟨(i 0).val % 128, by omega⟩ := by
  subst hx hw hca hsa
  funext i
  idx_vars i
  exact (packK_at _ _ _).trans (headA_keys _ _ _ _ _ _ _).symm

/-- The first mixer's values are the reference's. -/
theorem valuesA {x x' : S32x2048x1024.Idx → EReal} {w w' : S1024x2048.Idx → EReal}
    (hx : x' = x) (hw : w' = w) :
    packV (proj x' w') = fun i : S65536x256.Idx => hid x w
      ⟨(i 0).val / 2048, by have := (i 0).isLt; simp only [S65536x256] at this; change _ < 65536 at this; omega⟩
      ⟨(i 0).val % 2048, by omega⟩
      ⟨512 + (i 1).val, by have := (i 1).isLt; simp only [S65536x256] at this; change _ < 256 at this; omega⟩ := by
  subst hx hw
  funext i
  idx_vars i
  exact (packV_at _ _ _).trans (hid_proj _ _ _ _ _ _ ((if_neg (by dsimp only; omega)).trans (if_neg (by dsimp only; omega)))).symm

/-- The second mixer's queries are the reference's. -/
theorem queriesB {x x' : S32x2048x1024.Idx → EReal} {w w' : S1024x2048.Idx → EReal} {cr cr' : S2048x32.Idx → EReal} {sr sr' : S2048x32.Idx → EReal} {cc cc' : S2048x32.Idx → EReal} {sc sc' : S2048x32.Idx → EReal} {γ γ' : S64.Idx → EReal}
    (hx : x' = x) (hw : w' = w) (hcr : cr' = cr) (hsr : sr' = sr) (hcc : cc' = cc) (hsc : sc' = sc) (hγ : γ' = γ) :
    packG (axialG (normG (headsG (proj x' w')) γ') cr' sr' cc' sc') = fun i : S65536x512.Idx => headB x w cr sr cc sc γ
      ⟨(i 0).val / 2048, by have := (i 0).isLt; simp only [S65536x512] at this; change _ < 65536 at this; omega⟩
      ⟨(i 0).val % 2048, by omega⟩
      ⟨6 + (i 1).val / 128, by have := (i 1).isLt; simp only [S65536x512] at this; change _ < 512 at this; omega⟩ ⟨(i 1).val % 128, by omega⟩ := by
  subst hx hw hcr hsr hcc hsc hγ
  funext i
  idx_vars i
  exact (packG_at _ _ _).trans (headB_queries _ _ _ _ _ _ _ _ _ _).symm

/-- The second mixer's keys are the reference's. -/
theorem keysB {x x' : S32x2048x1024.Idx → EReal} {w w' : S1024x2048.Idx → EReal} {cr cr' : S2048x32.Idx → EReal} {sr sr' : S2048x32.Idx → EReal} {cc cc' : S2048x32.Idx → EReal} {sc sc' : S2048x32.Idx → EReal} {γ γ' : S64.Idx → EReal}
    (hx : x' = x) (hw : w' = w) (hcr : cr' = cr) (hsr : sr' = sr) (hcc : cc' = cc) (hsc : sc' = sc) (hγ : γ' = γ) :
    packL (axialL (normL (headsL (proj x' w')) γ') cr' sr' cc' sc') = fun i : S128x65536.Idx => headB x w cr sr cc sc γ
      ⟨(i 1).val / 2048, by have := (i 1).isLt; simp only [S128x65536] at this; change _ < 65536 at this; omega⟩
      ⟨(i 1).val % 2048, by omega⟩ 10
      ⟨(i 0).val, by have := (i 0).isLt; simp only [S128x65536] at this; change _ < 128 at this; omega⟩ := by
  subst hx hw hcr hsr hcc hsc hγ
  funext i
  idx_vars i
  exact (packL_at _ _ _).trans (headB_keys _ _ _ _ _ _ _ _ _ _).symm

/-- The second mixer's values are the reference's. -/
theorem valuesB {x x' : S32x2048x1024.Idx → EReal} {w w' : S1024x2048.Idx → EReal}
    (hx : x' = x) (hw : w' = w) :
    packW (proj x' w') = fun i : S65536x128.Idx => hid x w
      ⟨(i 0).val / 2048, by have := (i 0).isLt; simp only [S65536x128] at this; change _ < 65536 at this; omega⟩
      ⟨(i 0).val % 2048, by omega⟩
      ⟨1408 + (i 1).val, by have := (i 1).isLt; simp only [S65536x128] at this; change _ < 128 at this; omega⟩ := by
  subst hx hw
  funext i
  idx_vars i
  exact (packW_at _ _ _).trans (hid_proj _ _ _ _ _ _ ((if_neg (by dsimp only; omega)).trans (if_neg (by dsimp only; omega)))).symm

/-- The gated columns are the reference's. -/
theorem gatedC {x x' : S32x2048x1024.Idx → EReal} {w w' : S1024x2048.Idx → EReal} {g g' : S256.Idx → EReal} {e e' : S256.Idx → EReal} {ws ws' : S4x128x128.Idx → EReal} {bs bs' : S4x128.Idx → EReal}
    (hx : x' = x) (hw : w' = w) (hg : g' = g) (he : e' = e) (hws : ws' = ws) (hbs : bs' = bs) :
    Cert.ProjRefIdeal.Row.gated (Cert.ProjRefIdeal.Row.gelu (colsU (proj x' w')))
      (Cert.ProjRefIdeal.Row.normed (Cert.ProjRefIdeal.Row.gelu (colsV (proj x' w'))) g' e') ws' bs' = fun i : S65536x256.Idx => gated x w g e ws bs
      ⟨(i 0).val / 2048, by have := (i 0).isLt; simp only [S65536x256] at this; change _ < 65536 at this; omega⟩
      ⟨(i 0).val % 2048, by omega⟩
      ⟨(i 1).val, by have := (i 1).isLt; simp only [S65536x256] at this; change _ < 256 at this; omega⟩ := by
  subst hx hw hg he hws hbs
  funext i
  idx_vars i
  exact (gated_eq _ _ _ _ _ _ _ _).symm

variable (m : (ℓ : Loc Cert.ProjIdeal.nD Cert.ProjIdeal.τ Cert.ProjIdeal.sig) → Buf (Elt Ideal) ℓ)
  (c : Dev Cert.ProjIdeal.nD)

/-- What the call leaves for the first mixer's queries is the reference's, from the same arguments. -/
theorem queriesA_left {x0 : S32x2048x1024.Idx → EReal} (e0 : x0 = m ((c : Thread Cert.ProjIdeal.nD Cert.ProjIdeal.τ).loc Cert.ProjIdeal.main_arg0))
    {x1 : S1024x2048.Idx → EReal} (e1 : x1 = m ((c : Thread Cert.ProjIdeal.nD Cert.ProjIdeal.τ).loc Cert.ProjIdeal.main_arg1))
    {y0 : S2048x32.Idx → EReal} (t0 : y0 = Cert.ProjIdeal.Gen.V m c Cert.ProjIdeal.main_v19)
    {y1 : S2048x32.Idx → EReal} (t1 : y1 = Cert.ProjIdeal.Gen.V m c Cert.ProjIdeal.main_v20) :
    packQ (turnA (headsQ (proj x0 x1)) y0 y1)
      = (Cert.ProjIdeal.Gen.dats m 0 c).arrAt 10 Cert.ProjIdeal.cfg0.N :=
  (queriesA e0 e1 t0 t1).trans (final10 m c).symm

/-- What the call leaves for the first mixer's keys is the reference's, from the same arguments. -/
theorem keysA_left {x0 : S32x2048x1024.Idx → EReal} (e0 : x0 = m ((c : Thread Cert.ProjIdeal.nD Cert.ProjIdeal.τ).loc Cert.ProjIdeal.main_arg0))
    {x1 : S1024x2048.Idx → EReal} (e1 : x1 = m ((c : Thread Cert.ProjIdeal.nD Cert.ProjIdeal.τ).loc Cert.ProjIdeal.main_arg1))
    {y0 : S2048x32.Idx → EReal} (t0 : y0 = Cert.ProjIdeal.Gen.V m c Cert.ProjIdeal.main_v19)
    {y1 : S2048x32.Idx → EReal} (t1 : y1 = Cert.ProjIdeal.Gen.V m c Cert.ProjIdeal.main_v20) :
    packK (turnA (headsK (proj x0 x1)) y0 y1)
      = (Cert.ProjIdeal.Gen.dats m 0 c).arrAt 11 Cert.ProjIdeal.cfg0.N :=
  (keysA e0 e1 t0 t1).trans (final11 m c).symm

/-- What the call leaves for the first mixer's values is the reference's, from the same arguments. -/
theorem valuesA_left {x0 : S32x2048x1024.Idx → EReal} (e0 : x0 = m ((c : Thread Cert.ProjIdeal.nD Cert.ProjIdeal.τ).loc Cert.ProjIdeal.main_arg0))
    {x1 : S1024x2048.Idx → EReal} (e1 : x1 = m ((c : Thread Cert.ProjIdeal.nD Cert.ProjIdeal.τ).loc Cert.ProjIdeal.main_arg1)) :
    packV (proj x0 x1)
      = (Cert.ProjIdeal.Gen.dats m 0 c).arrAt 12 Cert.ProjIdeal.cfg0.N :=
  (valuesA e0 e1).trans (final12 m c).symm

/-- What the call leaves for the second mixer's queries is the reference's, from the same arguments. -/
theorem queriesB_left {x0 : S32x2048x1024.Idx → EReal} (e0 : x0 = m ((c : Thread Cert.ProjIdeal.nD Cert.ProjIdeal.τ).loc Cert.ProjIdeal.main_arg0))
    {x1 : S1024x2048.Idx → EReal} (e1 : x1 = m ((c : Thread Cert.ProjIdeal.nD Cert.ProjIdeal.τ).loc Cert.ProjIdeal.main_arg1))
    {y2 : S2048x32.Idx → EReal} (t2 : y2 = Cert.ProjIdeal.Gen.V m c Cert.ProjIdeal.main_v40)
    {y3 : S2048x32.Idx → EReal} (t3 : y3 = Cert.ProjIdeal.Gen.V m c Cert.ProjIdeal.main_v41)
    {y4 : S2048x32.Idx → EReal} (t4 : y4 = Cert.ProjIdeal.Gen.V m c Cert.ProjIdeal.main_v61)
    {y5 : S2048x32.Idx → EReal} (t5 : y5 = Cert.ProjIdeal.Gen.V m c Cert.ProjIdeal.main_v62)
    {x2 : S64.Idx → EReal} (e2 : x2 = m ((c : Thread Cert.ProjIdeal.nD Cert.ProjIdeal.τ).loc Cert.ProjIdeal.main_arg2)) :
    packG (axialG (normG (headsG (proj x0 x1)) x2) y2 y3 y4 y5)
      = (Cert.ProjIdeal.Gen.dats m 0 c).arrAt 13 Cert.ProjIdeal.cfg0.N :=
  (queriesB e0 e1 t2 t3 t4 t5 e2).trans (final13 m c).symm

/-- What the call leaves for the second mixer's keys is the reference's, from the same arguments. -/
theorem keysB_left {x0 : S32x2048x1024.Idx → EReal} (e0 : x0 = m ((c : Thread Cert.ProjIdeal.nD Cert.ProjIdeal.τ).loc Cert.ProjIdeal.main_arg0))
    {x1 : S1024x2048.Idx → EReal} (e1 : x1 = m ((c : Thread Cert.ProjIdeal.nD Cert.ProjIdeal.τ).loc Cert.ProjIdeal.main_arg1))
    {y2 : S2048x32.Idx → EReal} (t2 : y2 = Cert.ProjIdeal.Gen.V m c Cert.ProjIdeal.main_v40)
    {y3 : S2048x32.Idx → EReal} (t3 : y3 = Cert.ProjIdeal.Gen.V m c Cert.ProjIdeal.main_v41)
    {y4 : S2048x32.Idx → EReal} (t4 : y4 = Cert.ProjIdeal.Gen.V m c Cert.ProjIdeal.main_v61)
    {y5 : S2048x32.Idx → EReal} (t5 : y5 = Cert.ProjIdeal.Gen.V m c Cert.ProjIdeal.main_v62)
    {x3 : S64.Idx → EReal} (e3 : x3 = m ((c : Thread Cert.ProjIdeal.nD Cert.ProjIdeal.τ).loc Cert.ProjIdeal.main_arg3)) :
    packL (axialL (normL (headsL (proj x0 x1)) x3) y2 y3 y4 y5)
      = (Cert.ProjIdeal.Gen.dats m 0 c).arrAt 14 Cert.ProjIdeal.cfg0.N :=
  (keysB e0 e1 t2 t3 t4 t5 e3).trans (final14 m c).symm

/-- What the call leaves for the second mixer's values is the reference's, from the same arguments. -/
theorem valuesB_left {x0 : S32x2048x1024.Idx → EReal} (e0 : x0 = m ((c : Thread Cert.ProjIdeal.nD Cert.ProjIdeal.τ).loc Cert.ProjIdeal.main_arg0))
    {x1 : S1024x2048.Idx → EReal} (e1 : x1 = m ((c : Thread Cert.ProjIdeal.nD Cert.ProjIdeal.τ).loc Cert.ProjIdeal.main_arg1)) :
    packW (proj x0 x1)
      = (Cert.ProjIdeal.Gen.dats m 0 c).arrAt 15 Cert.ProjIdeal.cfg0.N :=
  (valuesB e0 e1).trans (final15 m c).symm

/-- What the call leaves for the gated columns is the reference's, from the same arguments. -/
theorem gatedC_left {x0 : S32x2048x1024.Idx → EReal} (e0 : x0 = m ((c : Thread Cert.ProjIdeal.nD Cert.ProjIdeal.τ).loc Cert.ProjIdeal.main_arg0))
    {x1 : S1024x2048.Idx → EReal} (e1 : x1 = m ((c : Thread Cert.ProjIdeal.nD Cert.ProjIdeal.τ).loc Cert.ProjIdeal.main_arg1))
    {x4 : S256.Idx → EReal} (e4 : x4 = m ((c : Thread Cert.ProjIdeal.nD Cert.ProjIdeal.τ).loc Cert.ProjIdeal.main_arg4))
    {x5 : S256.Idx → EReal} (e5 : x5 = m ((c : Thread Cert.ProjIdeal.nD Cert.ProjIdeal.τ).loc Cert.ProjIdeal.main_arg5))
    {x6 : S4x128x128.Idx → EReal} (e6 : x6 = m ((c : Thread Cert.ProjIdeal.nD Cert.ProjIdeal.τ).loc Cert.ProjIdeal.main_arg6))
    {x7 : S4x128.Idx → EReal} (e7 : x7 = m ((c : Thread Cert.ProjIdeal.nD Cert.ProjIdeal.τ).loc Cert.ProjIdeal.main_arg7)) :
    Cert.ProjRefIdeal.Row.gated (Cert.ProjRefIdeal.Row.gelu (colsU (proj x0 x1)))
      (Cert.ProjRefIdeal.Row.normed (Cert.ProjRefIdeal.Row.gelu (colsV (proj x0 x1))) x4 x5) x6 x7
      = (Cert.ProjIdeal.Gen.dats m 0 c).arrAt 16 Cert.ProjIdeal.cfg0.N :=
  (gatedC e0 e1 e4 e5 e6 e7).trans (final16 m c).symm

end Cert.ProjMath

namespace Cert.Proof

open Idealize.ShloMosaic Idealize.ShloMosaic.TcCoe Idealize.SL.Sem
open Cert.ProjMath Cert.ProjIdeal.Row

/-- The input projection computes what its reference computes, over the extended reals. -/
theorem proj_algebraic : Cert.algebraic_ProjIdeal_ProjRefIdeal := by
  intro m ρ m' ρ' _ hagree
  refine ⟨_, _, _, _, _, _, _, Cert.ProjIdeal.Value.run_blocks (F := Ideal) m ρ, ?_⟩
  refine (θ_run Cert.ProjRefIdeal.defs _ _).mono (fun _ h c => ?_) (Cert.ProjRefIdeal.Row.run_named m' ρ')
  obtain ⟨h0, h1, h2, h3, h4, h5, h6, h7⟩ := h c
  obtain ⟨e0, e1, e2, e3, e4, e5, e6, e7⟩ := hagree c
  have t0 := (cosines_along m c).symm
  have t1 := (sines_along m c).symm
  have t2 := (cosines_down m c).symm
  have t3 := (sines_down m c).symm
  have t4 := (cosines_across m c).symm
  have t5 := (sines_across m c).symm
  exact ⟨h0.trans (queriesA_left m c e0 e1 t0 t1),
    h1.trans (keysA_left m c e0 e1 t0 t1),
    h2.trans (valuesA_left m c e0 e1),
    h3.trans (queriesB_left m c e0 e1 t2 t3 t4 t5 e2),
    h4.trans (keysB_left m c e0 e1 t2 t3 t4 t5 e3),
    h5.trans (valuesB_left m c e0 e1),
    h6.trans (gatedC_left m c e0 e1 e4 e5 e6 e7), h7⟩

end Cert.Proof

end
-- ==== Proof.lean ====
/- The certificate: the frames and the value claims of the calls. -/
module

public import proofs.«01_k».proof.Defs
public import proofs.«01_k».proof.Proof.Gen.Gqa.Frame
public import proofs.«01_k».proof.Proof.Gen.GqaIdeal.Frame
public import proofs.«01_k».proof.Proof.Gen.GqaIdeal.Value
public import proofs.«01_k».proof.Proof.Gen.GqaRefIdeal.Run
public import proofs.«01_k».proof.Proof.Gen.Pre_finite_b
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.Post.Frame
public import proofs.«01_k».proof.Proof.Gen.PostIdeal.Frame
public import proofs.«01_k».proof.Proof.Gen.PostIdeal.Value
public import proofs.«01_k».proof.Proof.Gen.PostRefIdeal.Run
public import proofs.«01_k».proof.Proof.GqaClaim
public import proofs.«01_k».proof.Proof.PostClaim
public import proofs.«01_k».proof.Proof.ProjClaim
public import Idealize.ShloMosaic.Adequacy
public import Idealize.ShloMosaic.Init
public import Idealize.ShloMosaic.Lib.Quiescent

@[expose] public section

noncomputable section

namespace Cert.Proof

open Idealize.ShloMosaic Idealize.SL.Sem

/-- The input projection's call ends with its arguments as they were. -/
theorem proj_frame : Cert.quiescent_Proj := fun m ρ _ => Cert.Proj.Gen.frame m ρ

/-- The same over the extended reals. -/
theorem proj_ideal_frame : Cert.quiescent_ProjIdeal := fun m ρ _ => Cert.ProjIdeal.Gen.frame m ρ

/-- Its reference ends with its arguments as they were. -/
theorem proj_ref_frame : Cert.quiescent_ProjRefIdeal := fun m ρ _ =>
  (θ_run Cert.ProjRefIdeal.defs _ _).mono
    (fun r h => ⟨fun c => (h c).2.2.2.2.2.2.2, sem_eq_zero_of_no_sems (by decide) r.2⟩)
    (Cert.ProjRefIdeal.Value.run (F := Ideal) m ρ)

/-- The last call ends with its arguments as they were. -/
theorem post_frame : Cert.quiescent_Post := fun m ρ _ => Cert.Post.Gen.frame m ρ

/-- The same over the extended reals. -/
theorem post_ideal_frame : Cert.quiescent_PostIdeal := fun m ρ _ => Cert.PostIdeal.Gen.frame m ρ

/-- Its reference ends with its arguments as they were. -/
theorem post_ref_frame : Cert.quiescent_PostRefIdeal := fun m ρ _ =>
  (θ_run Cert.PostRefIdeal.defs _ _).mono (fun r h => ⟨fun c => (h c).2, sem_eq_zero_of_no_sems (by decide) r.2⟩)
    (Cert.PostRefIdeal.Value.run (F := Ideal) m ρ)

/-- The grouped-query attention ends with its arguments as they were. -/
theorem gqa_frame : Cert.quiescent_Gqa := fun m ρ _ => Cert.Gqa.Gen.frame m ρ

/-- The same over the extended reals. -/
theorem gqa_ideal_frame : Cert.quiescent_GqaIdeal := fun m ρ _ => Cert.GqaIdeal.Gen.frame m ρ

/-- Its reference ends with its arguments as they were. -/
theorem gqa_ref_frame : Cert.quiescent_GqaRefIdeal := fun m ρ _ =>
  (θ_run Cert.GqaRefIdeal.defs _ _).mono (fun r h => ⟨fun c => (h c).2, sem_eq_zero_of_no_sems (by decide) r.2⟩)
    (Cert.GqaRefIdeal.Value.run (F := Ideal) m ρ)

/-- The rewritten constants are the scale, which reads as its named value. -/
theorem gqa_preserves : Cert.preserves_Gqa_GqaIdeal :=
  IdealRules.named_const.statement Cert.GqaIdeal.κ "b_scale" .f32 _ _ rfl

/-- The certificate. -/
theorem claim : Cert.Claim :=
  ⟨Cert.Proj.Gen.facts, Cert.ProjIdeal.Gen.facts, Cert.ProjRefIdeal.Gen.facts,
    Cert.Gqa.Gen.facts, Cert.GqaIdeal.Gen.facts, Cert.GqaRefIdeal.Gen.facts,
    Cert.Post.Gen.facts, Cert.PostIdeal.Gen.facts, Cert.PostRefIdeal.Gen.facts, Cert.Pre_finite_b.Gen.facts,
    proj_frame, proj_ideal_frame, proj_ref_frame,
    gqa_frame, gqa_ideal_frame, fun m ρ _ => gqa_ideal_frame m ρ trivial,
    gqa_ref_frame, fun m ρ _ => gqa_ref_frame m ρ trivial,
    post_frame, post_ideal_frame, post_ref_frame,
    trivial, proj_algebraic, gqa_preserves, gqa_algebraic, trivial, post_algebraic⟩

end Cert.Proof

end
